-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S4x1x512 : Shape := ⟨3, ![4, 1, 512]⟩
abbrev S4 : Shape := ⟨1, ![4]⟩
abbrev S_ : Shape := ⟨0, ![]⟩
abbrev S1023x512 : Shape := ⟨2, ![1023, 512]⟩
abbrev S2x512 : Shape := ⟨2, ![2, 512]⟩
abbrev S1022x512 : Shape := ⟨2, ![1022, 512]⟩
abbrev S4x512 : Shape := ⟨2, ![4, 512]⟩
abbrev S1020x512 : Shape := ⟨2, ![1020, 512]⟩
abbrev S8x512 : Shape := ⟨2, ![8, 512]⟩
abbrev S1016x512 : Shape := ⟨2, ![1016, 512]⟩
abbrev S16x512 : Shape := ⟨2, ![16, 512]⟩
abbrev S1008x512 : Shape := ⟨2, ![1008, 512]⟩
abbrev S32x512 : Shape := ⟨2, ![32, 512]⟩
abbrev S992x512 : Shape := ⟨2, ![992, 512]⟩
abbrev S64x512 : Shape := ⟨2, ![64, 512]⟩
abbrev S960x512 : Shape := ⟨2, ![960, 512]⟩
abbrev S128x512 : Shape := ⟨2, ![128, 512]⟩
abbrev S896x512 : Shape := ⟨2, ![896, 512]⟩
abbrev S1 : Shape := ⟨1, ![1]⟩
abbrev S1x1x512 : Shape := ⟨3, ![1, 1, 512]⟩
abbrev S256x512 : Shape := ⟨2, ![256, 512]⟩
abbrev S768x512 : Shape := ⟨2, ![768, 512]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S4x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 1 := Scalar.cmpi .sge v2 c1_i32_0
  let v5 : BitVec 32 := Scalar.extui v4
  let c0_i32 : BitVec 32 := 0#32
  let v6 : BitVec 1 := Scalar.cmpi .ne v5 c0_i32
  v6

def k0_dev1 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v129 : BitVec 32 := Scalar.subi v2 c1_i32_60
  let c4_i32_61 : BitVec 32 := 4#32
  let c0_i32_62 : BitVec 32 := 0#32
  let v130 : BitVec 1 := Scalar.cmpi .eq c4_i32_61 c0_i32_62
  let c1_i32_63 : BitVec 32 := 1#32
  let v131 : BitVec 32 := Scalar.select v130 c1_i32_63 c4_i32_61
  let v132 : BitVec 32 := Scalar.remsi v129 v131
  let c0_i32_65 : BitVec 32 := 0#32
  let v134 : BitVec 1 := Scalar.cmpi .slt v132 c0_i32_65
  let c0_i32_66 : BitVec 32 := 0#32
  let v135 : BitVec 1 := Scalar.cmpi .slt v131 c0_i32_66
  let v136 : BitVec 1 := Scalar.xori v134 v135
  let c0_i32_64 : BitVec 32 := 0#32
  let v133 : BitVec 1 := Scalar.cmpi .ne v132 c0_i32_64
  let v137 : BitVec 1 := Scalar.andi v136 v133
  let v138 : BitVec 32 := Scalar.addi v132 v131
  let v139 : BitVec 32 := Scalar.select v137 v138 v132
  let c1_i32_68 : BitVec 32 := 1#32
  let v140 : BitVec 32 := Scalar.muli v139 c1_i32_68
  let v141 : BitVec 32 := Scalar.addi c0_i32_69 v140
  v141.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 1 := Scalar.cmpi .sge v2 c2_i32
  let v8 : BitVec 32 := Scalar.extui v7
  let c0_i32_1 : BitVec 32 := 0#32
  let v9 : BitVec 1 := Scalar.cmpi .ne v8 c0_i32_1
  v9

def k0_dev2 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_60 : BitVec 32 := 2#32
  let v129 : BitVec 32 := Scalar.subi v2 c2_i32_60
  let c4_i32_61 : BitVec 32 := 4#32
  let c0_i32_62 : BitVec 32 := 0#32
  let v130 : BitVec 1 := Scalar.cmpi .eq c4_i32_61 c0_i32_62
  let c1_i32_63 : BitVec 32 := 1#32
  let v131 : BitVec 32 := Scalar.select v130 c1_i32_63 c4_i32_61
  let v132 : BitVec 32 := Scalar.remsi v129 v131
  let c0_i32_65 : BitVec 32 := 0#32
  let v134 : BitVec 1 := Scalar.cmpi .slt v132 c0_i32_65
  let c0_i32_66 : BitVec 32 := 0#32
  let v135 : BitVec 1 := Scalar.cmpi .slt v131 c0_i32_66
  let v136 : BitVec 1 := Scalar.xori v134 v135
  let c0_i32_64 : BitVec 32 := 0#32
  let v133 : BitVec 1 := Scalar.cmpi .ne v132 c0_i32_64
  let v137 : BitVec 1 := Scalar.andi v136 v133
  let v138 : BitVec 32 := Scalar.addi v132 v131
  let v139 : BitVec 32 := Scalar.select v137 v138 v132
  let c1_i32_68 : BitVec 32 := 1#32
  let v140 : BitVec 32 := Scalar.muli v139 c1_i32_68
  let v141 : BitVec 32 := Scalar.addi c0_i32_69 v140
  v141.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v10 : BitVec 1 := Scalar.cmpi .sge v2 c3_i32
  let v11 : BitVec 32 := Scalar.extui v10
  let c0_i32_2 : BitVec 32 := 0#32
  let v12 : BitVec 1 := Scalar.cmpi .ne v11 c0_i32_2
  v12

def k0_dev3 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_60 : BitVec 32 := 3#32
  let v129 : BitVec 32 := Scalar.subi v2 c3_i32_60
  let c4_i32_61 : BitVec 32 := 4#32
  let c0_i32_62 : BitVec 32 := 0#32
  let v130 : BitVec 1 := Scalar.cmpi .eq c4_i32_61 c0_i32_62
  let c1_i32_63 : BitVec 32 := 1#32
  let v131 : BitVec 32 := Scalar.select v130 c1_i32_63 c4_i32_61
  let v132 : BitVec 32 := Scalar.remsi v129 v131
  let c0_i32_65 : BitVec 32 := 0#32
  let v134 : BitVec 1 := Scalar.cmpi .slt v132 c0_i32_65
  let c0_i32_66 : BitVec 32 := 0#32
  let v135 : BitVec 1 := Scalar.cmpi .slt v131 c0_i32_66
  let v136 : BitVec 1 := Scalar.xori v134 v135
  let c0_i32_64 : BitVec 32 := 0#32
  let v133 : BitVec 1 := Scalar.cmpi .ne v132 c0_i32_64
  let v137 : BitVec 1 := Scalar.andi v136 v133
  let v138 : BitVec 32 := Scalar.addi v132 v131
  let v139 : BitVec 32 := Scalar.select v137 v138 v132
  let c1_i32_68 : BitVec 32 := 1#32
  let v140 : BitVec 32 := Scalar.muli v139 c1_i32_68
  let v141 : BitVec 32 := Scalar.addi c0_i32_69 v140
  v141.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v66 : BitVec 32 := Scalar.addi v2 c1_i32_19
  let c4_i32_20 : BitVec 32 := 4#32
  let v67 : BitVec 1 := Scalar.cmpi .slt v66 c4_i32_20
  let v68 : BitVec 32 := Scalar.extui v67
  let c0_i32_21 : BitVec 32 := 0#32
  let v69 : BitVec 1 := Scalar.cmpi .ne v68 c0_i32_21
  v69

def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v129 : BitVec 32 := Scalar.addi v2 c1_i32_60
  let c4_i32_61 : BitVec 32 := 4#32
  let c0_i32_62 : BitVec 32 := 0#32
  let v130 : BitVec 1 := Scalar.cmpi .eq c4_i32_61 c0_i32_62
  let c1_i32_63 : BitVec 32 := 1#32
  let v131 : BitVec 32 := Scalar.select v130 c1_i32_63 c4_i32_61
  let v132 : BitVec 32 := Scalar.remsi v129 v131
  let c0_i32_65 : BitVec 32 := 0#32
  let v134 : BitVec 1 := Scalar.cmpi .slt v132 c0_i32_65
  let c0_i32_66 : BitVec 32 := 0#32
  let v135 : BitVec 1 := Scalar.cmpi .slt v131 c0_i32_66
  let v136 : BitVec 1 := Scalar.xori v134 v135
  let c0_i32_64 : BitVec 32 := 0#32
  let v133 : BitVec 1 := Scalar.cmpi .ne v132 c0_i32_64
  let v137 : BitVec 1 := Scalar.andi v136 v133
  let v138 : BitVec 32 := Scalar.addi v132 v131
  let v139 : BitVec 32 := Scalar.select v137 v138 v132
  let c1_i32_70 : BitVec 32 := 1#32
  let v140 : BitVec 32 := Scalar.muli v139 c1_i32_70
  let v141 : BitVec 32 := Scalar.addi c0_i32_71 v140
  v141.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_22 : BitVec 32 := 2#32
  let v70 : BitVec 32 := Scalar.addi v2 c2_i32_22
  let c4_i32_23 : BitVec 32 := 4#32
  let v71 : BitVec 1 := Scalar.cmpi .slt v70 c4_i32_23
  let v72 : BitVec 32 := Scalar.extui v71
  let c0_i32_24 : BitVec 32 := 0#32
  let v73 : BitVec 1 := Scalar.cmpi .ne v72 c0_i32_24
  v73

def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_60 : BitVec 32 := 2#32
  let v129 : BitVec 32 := Scalar.addi v2 c2_i32_60
  let c4_i32_61 : BitVec 32 := 4#32
  let c0_i32_62 : BitVec 32 := 0#32
  let v130 : BitVec 1 := Scalar.cmpi .eq c4_i32_61 c0_i32_62
  let c1_i32_63 : BitVec 32 := 1#32
  let v131 : BitVec 32 := Scalar.select v130 c1_i32_63 c4_i32_61
  let v132 : BitVec 32 := Scalar.remsi v129 v131
  let c0_i32_65 : BitVec 32 := 0#32
  let v134 : BitVec 1 := Scalar.cmpi .slt v132 c0_i32_65
  let c0_i32_66 : BitVec 32 := 0#32
  let v135 : BitVec 1 := Scalar.cmpi .slt v131 c0_i32_66
  let v136 : BitVec 1 := Scalar.xori v134 v135
  let c0_i32_64 : BitVec 32 := 0#32
  let v133 : BitVec 1 := Scalar.cmpi .ne v132 c0_i32_64
  let v137 : BitVec 1 := Scalar.andi v136 v133
  let v138 : BitVec 32 := Scalar.addi v132 v131
  let v139 : BitVec 32 := Scalar.select v137 v138 v132
  let c1_i32_70 : BitVec 32 := 1#32
  let v140 : BitVec 32 := Scalar.muli v139 c1_i32_70
  let v141 : BitVec 32 := Scalar.addi c0_i32_71 v140
  v141.toNat
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_25 : BitVec 32 := 3#32
  let v74 : BitVec 32 := Scalar.addi v2 c3_i32_25
  let c4_i32_26 : BitVec 32 := 4#32
  let v75 : BitVec 1 := Scalar.cmpi .slt v74 c4_i32_26
  let v76 : BitVec 32 := Scalar.extui v75
  let c0_i32_27 : BitVec 32 := 0#32
  let v77 : BitVec 1 := Scalar.cmpi .ne v76 c0_i32_27
  v77

def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_60 : BitVec 32 := 3#32
  let v129 : BitVec 32 := Scalar.addi v2 c3_i32_60
  let c4_i32_61 : BitVec 32 := 4#32
  let c0_i32_62 : BitVec 32 := 0#32
  let v130 : BitVec 1 := Scalar.cmpi .eq c4_i32_61 c0_i32_62
  let c1_i32_63 : BitVec 32 := 1#32
  let v131 : BitVec 32 := Scalar.select v130 c1_i32_63 c4_i32_61
  let v132 : BitVec 32 := Scalar.remsi v129 v131
  let c0_i32_65 : BitVec 32 := 0#32
  let v134 : BitVec 1 := Scalar.cmpi .slt v132 c0_i32_65
  let c0_i32_66 : BitVec 32 := 0#32
  let v135 : BitVec 1 := Scalar.cmpi .slt v131 c0_i32_66
  let v136 : BitVec 1 := Scalar.xori v134 v135
  let c0_i32_64 : BitVec 32 := 0#32
  let v133 : BitVec 1 := Scalar.cmpi .ne v132 c0_i32_64
  let v137 : BitVec 1 := Scalar.andi v136 v133
  let v138 : BitVec 32 := Scalar.addi v132 v131
  let v139 : BitVec 32 := Scalar.select v137 v138 v132
  let c1_i32_70 : BitVec 32 := 1#32
  let v140 : BitVec 32 := Scalar.muli v139 c1_i32_70
  let v141 : BitVec 32 := Scalar.addi c0_i32_71 v140
  v141.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S4096x512, .f32⟩
  | .hbm, ⟨5, _⟩ => ⟨S_, .i32⟩
  | .hbm, ⟨6, _⟩ => ⟨S4096x512, .f32⟩
  | .hbm, ⟨7, _⟩ => ⟨S_, .i32⟩
  | .hbm, ⟨8, _⟩ => ⟨S512, .f32⟩
  | .hbm, ⟨9, _⟩ => ⟨S4096x512, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S_, .i32⟩
  | .hbm, ⟨18, _⟩ => ⟨S4096x512, .f32⟩
  | .hbm, ⟨19, _⟩ => ⟨S_, .i32⟩
  | .hbm, ⟨20, _⟩ => ⟨S_, .i32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 4096#32, 1#32⟩
-- ==== Proof.Mesh.lean ====
/-
The four devices of the mesh as the kernel of the distributed running product names them: the device `k + 1` places
below or above a device, and when the program's conditions send a device there.
-/
module

public import proofs.«01_k».proof.Proof.Gen.KernelIdeal
public import proofs.«01_k».proof.Proof.Gen.KernelIdeal.Skeleton

@[expose] public section

noncomputable section

namespace Cert.RunProd

open Cert.KernelIdeal Cert.KernelIdeal.Gen
open Idealize.ShloMosaic

/-- The device `k + 1` places below `c`, around the end of the mesh. -/
def dn (c : Dev nD) (k : Fin 3) : Dev nD := ⟨(c.val + (3 - k.val)) % 4, Nat.mod_lt _ (by decide)⟩
/-- The device `k + 1` places above `c`, around the end of the mesh. -/
def up (c : Dev nD) (k : Fin 3) : Dev nD := ⟨(c.val + (k.val + 1)) % 4, Nat.mod_lt _ (by decide)⟩

/-- There is a device `k + 1` places below `c` without going around the end. -/
def Below (c : Dev nD) (k : Fin 3) : Prop := k.val + 1 ≤ c.val
/-- There is a device `k + 1` places above `c` without going around the end. -/
def Above (c : Dev nD) (k : Fin 3) : Prop := c.val + (k.val + 1) < 4

instance (c : Dev nD) (k : Fin 3) : Decidable (Below c k) := by unfold Below; infer_instance
instance (c : Dev nD) (k : Fin 3) : Decidable (Above c k) := by unfold Above; infer_instance

theorem up_dn (c : Dev nD) (k : Fin 3) : up (dn c k) k = c := by revert c k; decide
theorem dn_up (c : Dev nD) (k : Fin 3) : dn (up c k) k = c := by revert c k; decide
/-- The device below has one above exactly when there is a device below. -/
theorem above_dn (c : Dev nD) (k : Fin 3) : Iff (Above (dn c k) k) (Below c k) := by revert c k; decide
theorem below_up (c : Dev nD) (k : Fin 3) : Iff (Below (up c k) k) (Above c k) := by revert c k; decide

/-- Stepping `k + 1` places up is a rearrangement of the devices. -/
def turn (k : Fin 3) : Dev nD ≃ Dev nD := ⟨fun c => up c k, fun c => dn c k, fun c => dn_up c k, fun c => up_dn c k⟩

/-- The place of device `c` on the mesh axis as the kernel computes it. -/
def place (c : Dev nD) : BitVec 32 := Scalar.remsi (Scalar.divsi (Dev.word c) 1#32) 4#32

/-! ### The program's conditions and device numbers -/

theorem cond1_iff (c : Dev nD) : Iff (k0_cond1 c = 1#1) (Below c 0) := by revert c; decide +kernel
theorem cond2_iff (c : Dev nD) : Iff (k0_cond2 c = 1#1) (Below c 1) := by revert c; decide +kernel
theorem cond3_iff (c : Dev nD) : Iff (k0_cond3 c = 1#1) (Below c 2) := by revert c; decide +kernel
theorem cond7_iff (c : Dev nD) : Iff (k0_cond7 c = 1#1) (Above c 0) := by revert c; decide +kernel
theorem cond8_iff (c : Dev nD) : Iff (k0_cond8 c = 1#1) (Above c 1) := by revert c; decide +kernel
theorem cond9_iff (c : Dev nD) : Iff (k0_cond9 c = 1#1) (Above c 2) := by revert c; decide +kernel

theorem dev1_eq (c : Dev nD) (h : k0_cond1 c = 1#1) : (⟨k0_dev1 c, k0_dev1_lt c h⟩ : Dev nD) = dn c 0 := by revert c; decide +kernel
theorem dev2_eq (c : Dev nD) (h : k0_cond2 c = 1#1) : (⟨k0_dev2 c, k0_dev2_lt c h⟩ : Dev nD) = dn c 1 := by revert c; decide +kernel
theorem dev3_eq (c : Dev nD) (h : k0_cond3 c = 1#1) : (⟨k0_dev3 c, k0_dev3_lt c h⟩ : Dev nD) = dn c 2 := by revert c; decide +kernel
theorem dev4_eq (c : Dev nD) (h : k0_cond7 c = 1#1) : (⟨k0_dev4 c, k0_dev4_lt c h⟩ : Dev nD) = up c 0 := by revert c; decide +kernel
theorem dev5_eq (c : Dev nD) (h : k0_cond8 c = 1#1) : (⟨k0_dev5 c, k0_dev5_lt c h⟩ : Dev nD) = up c 1 := by revert c; decide +kernel
theorem dev6_eq (c : Dev nD) (h : k0_cond9 c = 1#1) : (⟨k0_dev6 c, k0_dev6_lt c h⟩ : Dev nD) = up c 2 := by revert c; decide +kernel

/-- The number of steps as the word the kernel compares with. -/
def stepWord (k : Fin 3) : BitVec 32 := BitVec.ofNat 32 (k.val + 1)

/-- The comparison the kernel selects by: the place is at least the number of steps exactly when there is a device below. -/
theorem sge_iff (c : Dev nD) (k : Fin 3) : Iff (Scalar.cmpi .sge (place c) (stepWord k) = 1#1) (Below c k) := by
  revert c k; decide +kernel
/-- The same comparison widened to a word and compared with zero. -/
theorem sge_ne_iff (c : Dev nD) (k : Fin 3) :
    Iff (Scalar.cmpi .ne (Scalar.extui (Scalar.cmpi .sge (place c) (stepWord k)) : BitVec 32) 0#32 = 1#1) (Below c k) := by
  revert c k; decide +kernel
/-- Adding the steps stays on the mesh exactly when there is a device above. -/
theorem slt_ne_iff (c : Dev nD) (k : Fin 3) :
    Iff (Scalar.cmpi .ne (Scalar.extui (Scalar.cmpi .slt (Scalar.addi (place c) (stepWord k)) 4#32) : BitVec 32) 0#32 = 1#1) (Above c k) := by
  revert c k; decide +kernel
/-- The place is the word `j` exactly on the `j`-th device. -/
theorem eq_ne_iff (c : Dev nD) (j : Fin 3) :
    Iff (Scalar.cmpi .ne (Scalar.extui (Scalar.cmpi .eq (place c) (BitVec.ofNat 32 j.val)) : BitVec 32) 0#32 = 1#1) (c.val = j.val) := by
  revert c j; decide +kernel

end Cert.RunProd

end
-- ==== Proof.Schedule.lean ====
/-
The exchange of the block totals between the devices as a protocol of one round: the buffers and semaphores it uses,
what each payment on a semaphore hands over, and the tables of the payments.

On every device there are seven counters. The BARRIER counter of device `c` is paid one unit by each device above it;
the payment of the device `k + 1` places above hands over that device's landing slot `k + 1`. The ARRIVAL counter `k` of
`c` is paid by the transfer of the device `k + 1` places below, and hands over the slot filled with that device's total.
The DEPARTURE counter `k` of `c` is paid by `c`'s own transfer to the device `k + 1` places above, and hands back the
share of the total's buffer the transfer read.
-/
module

public import proofs.«01_k».proof.Proof.Mesh
public import Idealize.ShloMosaic.Lib.Pipeline.Launch
public import Idealize.ShloMosaic.Lib.Pipeline.Kit
public import Idealize.ShloMosaic.Lib.Tactic

@[expose] public section

noncomputable section

namespace Cert.RunProd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Ghost state: the launch library's own rounds, and the rounds of this exchange, whose payments are named by the
    number of steps between the two devices. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## Buffers -/

abbrev xM : Memref sig .tc .vmem S1024x512 .f32 := Memref.whole cc0_stg0_0
abbrev oM : Memref sig .tc .vmem S1024x512 .f32 := Memref.whole cc0_stg1_0
/-- The device's own total. -/
abbrev tM : Memref sig .tc .vmem S1x512 .f32 := Memref.whole cc0_scratch0
/-- The four landing slots (the slot numbered 0 is never used). -/
abbrev rM : Memref sig .tc .vmem S4x1x512 .f32 := Memref.whole cc0_scratch1

set_option backward.proofsInPublic true in
/-- Row `k + 1` of the landing buffer as a rectangle. -/
def rowR (k : Fin 3) : Rect S4x1x512 :=
  Rect.unit (s := S4x1x512) ![k.val + 1, 0, 0] S1x1x512.size (by revert k; decide)

/-- Landing slot `k + 1`: the row, seen as one vector. -/
def slotM (k : Fin 3) : Memref sig .tc .vmem S1x512 .f32 :=
  (rM.slice (rowR k) (fun _ => rfl)).squeeze S1x512 squeezes_S1x1x512_S1x512

/-! ## Semaphores and counters -/

abbrev barS : Sem sig := (SemArray.scalar (sig.barrier 0 rfl) : Sems sig S_).sem

set_option backward.proofsInPublic true in
def sendS (k : Fin 3) : DmaSem sig :=
  ((cc0_scratch2.slice (Rect.unit (s := S4) ![k.val + 1] S1.size (by revert k; decide))).squeeze S_ squeezes_S1_S_).sem
set_option backward.proofsInPublic true in
def recvS (k : Fin 3) : DmaSem sig :=
  ((cc0_scratch3.slice (Rect.unit (s := S4) ![k.val + 1] S1.size (by revert k; decide))).squeeze S_ squeezes_S1_S_).sem

theorem sendS_inj (k k' : Fin 3) (h : sendS k = sendS k') : k = k' := by revert k k'; decide +kernel
theorem recvS_inj (k k' : Fin 3) (h : recvS k = recvS k') : k = k' := by revert k k'; decide +kernel
theorem sendS_ne_recvS (k k' : Fin 3) : sendS k ≠ recvS k' := by revert k k'; decide +kernel

/-- Names of a device's counters: the barrier, the three departures, the three arrivals. -/
abbrev Ch : Type := Unit ⊕ (Fin 3 ⊕ Fin 3)
abbrev chSem : Ch → SemLoc sig := Sum.elim (fun _ => .reg barS) (Sum.elim (fun k => .dma (sendS k)) (fun k => .dma (recvS k)))

abbrev cell (c : Dev nD) (j : Ch) : GSem nD τ sig := ((c : Thread nD τ), chSem j)
abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- What one transfer of a total pays. -/
abbrev N : ℕ := (tM : Memref sig .tc .vmem S1x512 .f32).view.dmaCredit
theorem N_pos : 0 < N := View.dmaCredit_pos _ (by decide)

/-! ## Contents -/

/-- Device `c`'s block of the input. -/
def xin (c : Dev nD) : FVec F S1024x512 .f32 :=
  (win0_0.blk (0 : Fin 1)).view.read (Elt F) (m ((c : Thread nD τ).loc main_arg0))

/-- The number one, as the kernel writes it. -/
abbrev one32 : F .f32 := Scalar.ofBits .f32 0x3F800000#32

/-- The total the kernel makes of a block. -/
def totalOf (x : FVec F S1024x512 .f32) : FVec F S1x512 .f32 := k0_pay4 (k0_pay2 x) one32

/-- Slot `k + 1` of device `c` held whole with contents `f`. -/
def slotPts (c : Dev nD) (k : Fin 3) (f : Buf (Elt F) ((slotM k).view.loc (c : Thread nD τ))) : sProp 𝕄 :=
  (slotM k).view.loc (c : Thread nD τ) ↦[(slotM k).view.set]{fullShare} f
/-- Slot `k + 1` of device `c` at any contents. -/
def slotAny (c : Dev nD) (k : Fin 3) : sProp 𝕄 := iprop(∃ f, slotPts c k f)
/-- Slot `k + 1` of device `c` reading as `X`. -/
def slotAt (c : Dev nD) (k : Fin 3) (X : FVec F S1x512 .f32) : sProp 𝕄 :=
  iprop(∃ f, ⌜(slotM k).view.read (Elt F) f = X⌝ ∗ slotPts c k f)

/-- The share of the total's buffer the transfer over `k + 1` steps reads: the three together are the whole. -/
def part (k : Fin 3) : PosShare TreeShare :=
  match k with
  | 0 => fullShare.left
  | 1 => fullShare.right.left
  | 2 => fullShare.right.right

/-- The total's buffer of device `c` held by the share `q` with contents `f`. -/
def totPts (c : Dev nD) (q : PosShare TreeShare) (f : Buf (Elt F) ((tM : Memref sig .tc .vmem S1x512 .f32).view.loc (c : Thread nD τ))) : sProp 𝕄 :=
  (tM : Memref sig .tc .vmem S1x512 .f32).view.loc (c : Thread nD τ) ↦[(tM : Memref sig .tc .vmem S1x512 .f32).view.set]{q} f

omit [FloatOps F] in
instance slotPts_storable (c : Dev nD) (k : Fin 3) (f) : BI.Storable (upEmb : UEmb _ 𝕄) (slotPts (F := F) c k f) := by unfold slotPts; infer_instance
omit [FloatOps F] in
instance slotAny_storable (c : Dev nD) (k : Fin 3) : BI.Storable (upEmb : UEmb _ 𝕄) (slotAny (F := F) c k) := by unfold slotAny; infer_instance
omit [FloatOps F] in
instance slotAt_storable (c : Dev nD) (k : Fin 3) (X) : BI.Storable (upEmb : UEmb _ 𝕄) (slotAt (F := F) c k X) := by unfold slotAt; infer_instance
omit [FloatOps F] in
instance totPts_storable (c : Dev nD) (q) (f) : BI.Storable (upEmb : UEmb _ 𝕄) (totPts (F := F) c q f) := by unfold totPts; infer_instance

/-! ## The round -/

/-- The payments on a counter: on a barrier one from each device above; on departure `k` one if there is a device
    `k + 1` places above; on arrival `k` one if there is a device `k + 1` places below. -/
def dutySet (g : GSem nD τ sig) : Finset (Fin 3) :=
  Finset.univ.filter fun k =>
    (g.2 = .reg barS ∧ Above g.1.1 k) ∨ (g.2 = .dma (sendS k) ∧ Above g.1.1 k) ∨ (g.2 = .dma (recvS k) ∧ Below g.1.1 k)

/-- What payment `k` on a counter hands over. -/
def paid (g : GSem nD τ sig) (k : Fin 3) : sProp 𝕄 :=
  if g.2 = .reg barS then slotAny (up g.1.1 k) k
  else if g.2 = .dma (recvS k) then slotAt g.1.1 k (totalOf (xin m (dn g.1.1 k)))
  else if g.2 = .dma (sendS k) then totPts g.1.1 (part k) (totalOf (xin m g.1.1))
  else iprop(emp)

/-- The exchange as a schedule of one round, round 0. -/
def sched : Rounds.Schedule (GSem nD τ sig) (Fin 3) 𝕄 where
  duties g r := if r = 0 ∧ g.1.2 = .tc then dutySet g else ∅
  unitless _ := False
  amount g _ _ := if g.2 = .reg barS then 1 else N
  payload g _ k := paid m g k
  amount_pos g _ _ _ := by
    by_cases h : g.2 = .reg barS
    · rw [if_pos h]; exact Nat.one_pos
    · rw [if_neg h]; exact N_pos

instance sched_payload_storable (g : GSem nD τ sig) (r : ℕ) (k : Fin 3) :
    BI.Storable (upEmb : UEmb _ 𝕄) ((sched (F := F) m).payload g r k) := by
  show BI.Storable upEmb (paid m g k)
  unfold paid
  (repeat' split) <;> infer_instance

section Tables
variable (c : Dev nD) (k : Fin 3)

theorem dma_ne_bar (q : DmaSem sig) : (SemLoc.dma q : SemLoc sig) ≠ .reg barS := fun h => by cases h
theorem send_ne_recv (k k' : Fin 3) : (SemLoc.dma (sendS k) : SemLoc sig) ≠ .dma (recvS k') :=
  fun h => sendS_ne_recvS k k' (SemLoc.dma.inj h)

/-- In round 0 the payments on a device's counter are those named. -/
theorem duties_now (sm : SemLoc sig) : (sched (F := F) m).duties ((c : Thread nD τ), sm) 0 = dutySet ((c : Thread nD τ), sm) := by
  dsimp only [sched]; rw [if_pos ⟨rfl, rfl⟩]

theorem mem_duties_bar (h : Above c k) : k ∈ (sched (F := F) m).duties (barCell c) 0 := by
  rw [duties_now]
  exact Finset.mem_filter.mpr ⟨Finset.mem_univ _, .inl ⟨rfl, h⟩⟩
theorem mem_duties_send (h : Above c k) : k ∈ (sched (F := F) m).duties (sendCell c k) 0 := by
  rw [duties_now]
  exact Finset.mem_filter.mpr ⟨Finset.mem_univ _, .inr (.inl ⟨rfl, h⟩)⟩
theorem mem_duties_recv (h : Below c k) : k ∈ (sched (F := F) m).duties (recvCell c k) 0 := by
  rw [duties_now]
  exact Finset.mem_filter.mpr ⟨Finset.mem_univ _, .inr (.inr ⟨rfl, h⟩)⟩

theorem duties_bar : (sched (F := F) m).duties (barCell c) 0 = Finset.univ.filter (Above c) := by
  rw [duties_now]
  unfold dutySet
  refine Finset.filter_congr fun k _ => ?_
  constructor
  · rintro (h | h | h)
    · exact h.2
    · exact absurd h.1.symm (dma_ne_bar _)
    · exact absurd h.1.symm (dma_ne_bar _)
  · exact fun h => .inl ⟨rfl, h⟩
theorem duties_send : (sched (F := F) m).duties (sendCell c k) 0 = if Above c k then {k} else ∅ := by
  rw [duties_now]
  ext k'
  rw [dutySet, Finset.mem_filter]
  constructor
  · rintro ⟨-, h | h | h⟩
    · exact absurd h.1 (dma_ne_bar _)
    · have := sendS_inj _ _ (SemLoc.dma.inj h.1); subst this; rw [if_pos h.2]; exact Finset.mem_singleton_self _
    · exact absurd h.1 (send_ne_recv _ _)
  · intro h
    by_cases ha : Above c k
    · rw [if_pos ha, Finset.mem_singleton] at h; subst h; exact ⟨Finset.mem_univ _, .inr (.inl ⟨rfl, ha⟩)⟩
    · rw [if_neg ha] at h; exact absurd h (Finset.notMem_empty _)
theorem duties_recv : (sched (F := F) m).duties (recvCell c k) 0 = if Below c k then {k} else ∅ := by
  rw [duties_now]
  ext k'
  rw [dutySet, Finset.mem_filter]
  constructor
  · rintro ⟨-, h | h | h⟩
    · exact absurd h.1 (dma_ne_bar _)
    · exact absurd h.1.symm (send_ne_recv _ _)
    · have := recvS_inj _ _ (SemLoc.dma.inj h.1); subst this; rw [if_pos h.2]; exact Finset.mem_singleton_self _
  · intro h
    by_cases ha : Below c k
    · rw [if_pos ha, Finset.mem_singleton] at h; subst h; exact ⟨Finset.mem_univ _, .inr (.inr ⟨rfl, ha⟩)⟩
    · rw [if_neg ha] at h; exact absurd h (Finset.notMem_empty _)

/-- After round 0 no counter is paid. -/
theorem duties_later (g : GSem nD τ sig) : ∀ r, 1 ≤ r → (sched (F := F) m).duties g r = ∅ :=
  fun r hr => if_neg fun h => by omega
/-- A departure counter with no device above is never paid. -/
theorem duties_send_none (h : ¬ Above c k) : ∀ r, 0 ≤ r → (sched (F := F) m).duties (sendCell c k) r = ∅ := fun r _ => by
  rcases Nat.eq_zero_or_pos r with rfl | hr
  · rw [duties_send, if_neg h]
  · exact duties_later m _ r hr
/-- An arrival counter with no device below is never paid. -/
theorem duties_recv_none (h : ¬ Below c k) : ∀ r, 0 ≤ r → (sched (F := F) m).duties (recvCell c k) r = ∅ := fun r _ => by
  rcases Nat.eq_zero_or_pos r with rfl | hr
  · rw [duties_recv, if_neg h]
  · exact duties_later m _ r hr
/-- The top device's barrier counter is never paid. -/
theorem duties_bar_none (h : c.val = 3) : ∀ r, 0 ≤ r → (sched (F := F) m).duties (barCell c) r = ∅ := fun r _ => by
  rcases Nat.eq_zero_or_pos r with rfl | hr
  · rw [duties_bar]
    exact Finset.filter_eq_empty_iff.mpr fun k _ ha => by unfold Above at ha; omega
  · exact duties_later m _ r hr

theorem amount_bar : (sched (F := F) m).amount (barCell c) 0 k = 1 := by
  dsimp only [sched]; rw [if_pos rfl]
theorem amount_dma (q : DmaSem sig) : (sched (F := F) m).amount ((c : Thread nD τ), .dma q) 0 k = N := by
  dsimp only [sched]; rw [if_neg (dma_ne_bar q)]

/-- A barrier counter is paid one unit by each device above. -/
theorem expect_bar : (sched (F := F) m).expect (barCell c) 0 = 3 - c.val := by
  unfold Schedule.expect Schedule.amountOf
  rw [duties_bar, Finset.sum_congr rfl fun k _ => amount_bar m c k, Finset.sum_const, smul_eq_mul, mul_one]
  revert c; decide
theorem expect_send (h : Above c k) : (sched (F := F) m).expect (sendCell c k) 0 = N := by
  unfold Schedule.expect Schedule.amountOf; rw [duties_send, if_pos h, Finset.sum_singleton, amount_dma]
theorem expect_recv (h : Below c k) : (sched (F := F) m).expect (recvCell c k) 0 = N := by
  unfold Schedule.expect Schedule.amountOf; rw [duties_recv, if_pos h, Finset.sum_singleton, amount_dma]

theorem payload_bar : (sched (F := F) m).payload (barCell c) 0 k = slotAny (up c k) k := by
  dsimp only [sched, paid]; rw [if_pos rfl]
theorem payload_recv : (sched (F := F) m).payload (recvCell c k) 0 k = slotAt c k (totalOf (xin m (dn c k))) := by
  dsimp only [sched, paid]; rw [if_neg (dma_ne_bar _), if_pos rfl]
theorem payload_send : (sched (F := F) m).payload (sendCell c k) 0 k = totPts c (part k) (totalOf (xin m c)) := by
  dsimp only [sched, paid]; rw [if_neg (dma_ne_bar _), if_neg (send_ne_recv _ _), if_pos rfl]

/-- A slot on the device above, held if there is such a device. -/
def slotUp (c : Dev nD) (k : Fin 3) : sProp 𝕄 := if Above c k then slotAny (up c k) k else iprop(emp)

/-- A conjunction over a filtered set is the one over all, trivial where the filter fails. -/
theorem bigSep_guard {I : Type} [Fintype I] [DecidableEq I] (p : I → Prop) [DecidablePred p] (Φ : I → sProp 𝕄) :
    bigSep (Finset.univ.filter p) Φ ⊢ bigSep Finset.univ fun i => if p i then Φ i else iprop(emp) := by
  rw [BI.bigSep_filter_split Finset.univ p (Φ := fun i => if p i then Φ i else iprop(emp)),
    bigSep_congr (s := Finset.univ.filter p) (Ψ := Φ) fun i hi => if_pos (Finset.mem_filter.mp hi).2,
    bigSep_congr (s := Finset.univ.filter fun i => ¬p i) (Ψ := fun _ => (iprop(emp) : sProp 𝕄)) fun i hi => if_neg (Finset.mem_filter.mp hi).2,
    show (bigSep (Finset.univ.filter fun i => ¬p i) fun _ => (iprop(emp) : sProp 𝕄)) = iprop(emp) from bigSep_emp_const _]
  show _ ⊢ iprop(bigSep (Finset.univ.filter p) Φ ∗ emp)
  iintro H
  isplitl [H]
  · iexact H
  · iempintro

end Tables

end Cert.RunProd

end
-- ==== Proof.Owing.lean ====
/-
What each device owes the other devices' counters, the levels that keep the waits in order, and what each device may
expect on its own counters.
-/
module

public import proofs.«01_k».proof.Proof.Schedule

@[expose] public section

noncomputable section

namespace Cert.RunProd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The unit device `c` owes the barrier counter of the device `k + 1` places below, if there is one. -/
def oSig (c : Dev nD) (k : Fin 3) : CellTallies nD τ sig Unit := if Below c k then tallyAt (barCell (dn c k)) () 1 else 0
/-- The transfer device `c` owes the arrival counter of the device `k + 1` places above, if there is one. -/
def oSend (c : Dev nD) (k : Fin 3) : CellTallies nD τ sig Unit := if Above c k then tallyAt (recvCell (up c k) k) () N else 0

/-- What is owed once all signals are given: the three transfers. -/
def O₁ (c : Dev nD) : CellTallies nD τ sig Unit := 0 + oSend c 2 + oSend c 1 + oSend c 0
/-- What is owed at the start, the first payment last. -/
def O₀ (c : Dev nD) : CellTallies nD τ sig Unit := O₁ c + oSig c 2 + oSig c 1 + oSig c 0

def L (g : GSem nD τ sig) : Finset Unit := if g.1.2 = .tc then {()} else ∅
/-- Barrier counters at 1, arrivals at 2, all others at 0. -/
def lv (g : GSem nD τ sig) (_ : Unit) : ℕ := if g.2 = .reg barS then 1 else if (∃ k, g.2 = .dma (recvS k)) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [if_pos rfl]
theorem lv_recv (c : Dev nD) (k : Fin 3) (u : Unit) : lv (recvCell c k) u = 2 := by
  unfold lv; rw [if_neg (dma_ne_bar _), if_pos ⟨k, rfl⟩]
theorem lv_other (c : Dev nD) (q : DmaSem sig) (hq : ∀ k, q ≠ recvS k) (u : Unit) : lv ((c : Thread nD τ), .dma q) u = 0 := by
  unfold lv; rw [if_neg (dma_ne_bar _), if_neg fun ⟨k, h⟩ => hq k (SemLoc.dma.inj h)]

theorem oSig_pos {c : Dev nD} {k : Fin 3} {g : GSem nD τ sig} {u : Unit} (h : 0 < oSig c k g u) : g = barCell (dn c k) := by
  unfold oSig at h
  split at h
  · rw [tallyAt_apply] at h; by_contra hn; rw [if_neg fun h' => hn h'.1] at h; exact Nat.lt_irrefl 0 h
  · exact absurd h (Nat.lt_irrefl 0)
theorem oSend_pos {c : Dev nD} {k : Fin 3} {g : GSem nD τ sig} {u : Unit} (h : 0 < oSend c k g u) : g = recvCell (up c k) k := by
  unfold oSend at h
  split at h
  · rw [tallyAt_apply] at h; by_contra hn; rw [if_neg fun h' => hn h'.1] at h; exact Nat.lt_irrefl 0 h
  · exact absurd h (Nat.lt_irrefl 0)

theorem add_pos_cases {A B : CellTallies nD τ sig Unit} {g : GSem nD τ sig} {u : Unit} (h : 0 < (A + B) g u) : 0 < A g u ∨ 0 < B g u := by
  rw [Pi.add_apply, Finsupp.add_apply] at h; omega

/-- After the signals only arrivals are owed. -/
theorem O₁_pos {c : Dev nD} {g : GSem nD τ sig} {u : Unit} (h : 0 < O₁ c g u) : ∃ k, g = recvCell (up c k) k := by
  unfold O₁ at h
  rcases add_pos_cases h with h | h
  · rcases add_pos_cases h with h | h
    · rcases add_pos_cases h with h | h
      · exact absurd h (Nat.lt_irrefl 0)
      · exact ⟨2, oSend_pos h⟩
    · exact ⟨1, oSend_pos h⟩
  · exact ⟨0, oSend_pos h⟩
/-- At the start barriers and arrivals are owed. -/
theorem O₀_pos {c : Dev nD} {g : GSem nD τ sig} {u : Unit} (h : 0 < O₀ c g u) :
    (∃ k, g = recvCell (up c k) k) ∨ ∃ k, g = barCell (dn c k) := by
  unfold O₀ at h
  rcases add_pos_cases h with h | h
  · rcases add_pos_cases h with h | h
    · rcases add_pos_cases h with h | h
      · exact .inl (O₁_pos h)
      · exact .inr ⟨2, oSig_pos h⟩
    · exact .inr ⟨1, oSig_pos h⟩
  · exact .inr ⟨0, oSig_pos h⟩

omit [FloatOps F] in
/-- A wait on a counter of the pipeline that moves the blocks is in order. -/
theorem mayWait_stage (c : Dev nD) (q : DmaSem sig) (hq : ∀ k, q ≠ recvS k) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp, lv_other c q hq])
      (fun g u hg => by
        rcases O₀_pos hg with ⟨k, rfl⟩ | ⟨k, rfl⟩
        · rw [lv_recv]; decide
        · rw [lv_bar]; decide)
  · rw [MayWait_zero]; iintro -; iempintro

omit [FloatOps F] in
/-- The barrier wait is in order: only arrivals are owed then. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp, lv_bar])
    (fun g u hg => by obtain ⟨k, rfl⟩ := O₁_pos hg; rw [lv_recv]; decide)

/-! ## What a device may expect -/

theorem oSig_at (d c : Dev nD) (k : Fin 3) : oSig d k (barCell c) () = if Below d k ∧ dn d k = c then 1 else 0 := by
  unfold oSig
  by_cases hb : Below d k
  · rw [if_pos hb, tallyAt_apply]
    by_cases hc : dn d k = c
    · subst hc; rw [if_pos ⟨rfl, rfl⟩, if_pos ⟨hb, rfl⟩]
    · rw [if_neg fun h => hc (congrArg (fun g => g.1.1) h.1).symm, if_neg fun h => hc h.2]
  · rw [if_neg hb, if_neg fun h => hb h.1]; rfl

theorem oSig_recv (d c : Dev nD) (k j : Fin 3) : oSig d k (recvCell c j) () = 0 := by
  by_contra h
  exact absurd (congrArg Prod.snd (oSig_pos (Nat.pos_of_ne_zero h))) (dma_ne_bar _)
theorem oSend_bar (d c : Dev nD) (k : Fin 3) : oSend d k (barCell c) () = 0 := by
  by_contra h
  exact absurd (congrArg Prod.snd (oSend_pos (Nat.pos_of_ne_zero h))).symm (dma_ne_bar _)
theorem oSend_at (d c : Dev nD) (k j : Fin 3) : oSend d k (recvCell c j) () = if k = j ∧ d = dn c j ∧ Below c j then N else 0 := by
  by_cases hk : k = j
  · subst hk
    by_cases hd : d = dn c k
    · subst hd
      unfold oSend
      by_cases hb : Below c k
      · rw [if_pos ((above_dn c k).mpr hb), up_dn, tallyAt_apply, if_pos ⟨rfl, rfl⟩, if_pos ⟨rfl, rfl, hb⟩]
      · rw [if_neg fun h => hb ((above_dn c k).mp h), if_neg fun h => hb h.2.2]; rfl
    · rw [if_neg fun h => hd h.2.1]
      by_contra h
      have := congrArg (fun g => g.1.1) (oSend_pos (Nat.pos_of_ne_zero h))
      exact hd (by rw [show c = up d k from this, dn_up])
  · rw [if_neg fun h => hk h.1]
    by_contra h
    exact hk (recvS_inj _ _ (SemLoc.dma.inj (congrArg Prod.snd (oSend_pos (Nat.pos_of_ne_zero h))))).symm

theorem O₀_bar (d c : Dev nD) : O₀ d (barCell c) () = ∑ k : Fin 3, if Below d k ∧ dn d k = c then 1 else 0 := by
  unfold O₀ O₁
  simp only [Pi.add_apply, Finsupp.add_apply, Pi.zero_apply, Finsupp.zero_apply, oSig_at, oSend_bar, Fin.sum_univ_three]
  omega
theorem O₀_recv (d c : Dev nD) (j : Fin 3) : O₀ d (recvCell c j) () = if d = dn c j ∧ Below c j then N else 0 := by
  unfold O₀ O₁
  simp only [Pi.add_apply, Finsupp.add_apply, Pi.zero_apply, Finsupp.zero_apply, oSig_recv, oSend_at]
  fin_cases j <;> simp

theorem credit_bar (c : Dev nD) : launchCredit (Pipeline.owing O₀) 0 (barCell c) = Finsupp.single () (3 - c.val) := by
  refine Finsupp.ext fun u => ?_
  rw [Pipeline.launchCredit_owing, Finsupp.single_eq_same, Finset.sum_congr rfl fun d _ => O₀_bar d c]
  revert c; decide
theorem credit_recv (c : Dev nD) (k : Fin 3) :
    launchCredit (Pipeline.owing O₀) 0 (recvCell c k) = Finsupp.single () (if Below c k then N else 0) := by
  refine Finsupp.ext fun u => ?_
  rw [Pipeline.launchCredit_owing, Finsupp.single_eq_same, Finset.sum_congr rfl fun d _ => O₀_recv d c k,
    Finset.sum_eq_single (dn c k) (fun d _ hd => if_neg fun h => hd h.1) (fun h => absurd (Finset.mem_univ _) h)]
  by_cases hb : Below c k
  · rw [if_pos hb, if_pos ⟨rfl, hb⟩]
  · rw [if_neg hb, if_neg fun h => hb h.2]

theorem chSem_inj : Function.Injective chSem := by
  rintro (u | k | k) (u' | k' | k') h
  · rfl
  · exact absurd h.symm (dma_ne_bar _)
  · exact absurd h.symm (dma_ne_bar _)
  · exact absurd h (dma_ne_bar _)
  · exact congrArg (fun k => Sum.inr (Sum.inl k)) (sendS_inj _ _ (SemLoc.dma.inj h))
  · exact absurd h (send_ne_recv _ _)
  · exact absurd h (dma_ne_bar _)
  · exact absurd h.symm (send_ne_recv _ _)
  · exact congrArg (fun k => Sum.inr (Sum.inr k)) (recvS_inj _ _ (SemLoc.dma.inj h))

omit [FloatOps F] in
/-- Device `c` may expect a unit on its barrier from each device above, and one transfer on each arrival counter with a
    device below. -/
theorem credits (c : Dev nD) : (Pipeline.launchCred O₀ c : sProp 𝕄)
    ⊢ iprop(cred (tallyAt (barCell c) () (3 - c.val)) ∗ bigSep Finset.univ fun k : Fin 3 => cred (tallyAt (recvCell c k) () (if Below c k then N else 0))) := by
  have hr : (bigSep Finset.univ fun k : Fin 3 => cred (tallyOn (recvCell c k) (launchCredit (Pipeline.owing O₀) 0 (recvCell c k))) : sProp 𝕄)
      = bigSep Finset.univ fun k : Fin 3 => cred (tallyAt (recvCell c k) () (if Below c k then N else 0)) :=
    bigSep_congr fun k _ => by rw [credit_recv]; rfl
  unfold Pipeline.launchCred
  refine (BI.bigSep_subset (Finset.subset_univ (Finset.univ.map ⟨chSem, chSem_inj⟩))).trans ?_
  rw [BI.bigSep_map, BI.bigSep_univ_sum, BI.bigSep_univ_sum, BI.bigSep_univ_of_subsingleton ()]
  show iprop(cred (tallyOn (barCell c) (launchCredit (Pipeline.owing O₀) 0 (barCell c))) ∗ (_ ∗
    bigSep Finset.univ fun k : Fin 3 => cred (tallyOn (recvCell c k) (launchCredit (Pipeline.owing O₀) 0 (recvCell c k))))) ⊢ _
  iintro ⟨Hb, -, Hr⟩
  isplitl [Hb]
  · rw [credit_bar]
    iexact Hb
  · ihave H := (Entails.of_eq hr) $$ Hr
    iexact H

end Cert.RunProd

end
-- ==== Proof.Steps.lean ====
/-
The kernel's guarded statements, one lemma for each kind: a signal to a device below, the barrier wait, the transfer of
the total to a device above, the wait for a total to arrive and the wait for one's own transfer to have left. Each is
stated for any number of steps, whether the mesh has a device there or not.
-/
module

public import proofs.«01_k».proof.Proof.Owing

@[expose] public section

noncomputable section

namespace Cert.RunProd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ch → ℕ)

abbrev 𝒱₀ : Variants := Variants.none

/-- A program of the kernel's body. -/
abbrev Pg (F : FTy → Type) (α : Type) : Type 1 := Prog (TpuEff nD τ sig (Elt F) Λ₀ .tc) α
/-- A statement run only under a condition. -/
@[irreducible] def guarded (p : Prop) [Decidable p] (A : p → Pg F PUnit) : Pg F PUnit := dite p A fun _ => Prog.ret ⟨⟩

/-- A statement under a condition, the rest of the program written after it in both cases. -/
theorem guarded_rest {α : Type} (p : Prop) [Decidable p] (e : p → TpuEff nD τ sig (Elt F) Λ₀ .tc PUnit) (R : Pg F α) :
    (dite p (fun h => Prog.op (e h) fun _ => R) fun _ => R) = (guarded p fun h => Prog.op (e h) fun _ => Prog.ret ⟨⟩).bind fun _ => R := by
  unfold guarded
  by_cases h : p
  · rw [dif_pos h, dif_pos h]; rfl
  · rw [dif_neg h, dif_neg h]; rfl

/-- A program of the body on device `c` ends in `Q`. -/
abbrev runs {α : Type} (c : Dev nD) (P : Pg F α) (Q : α → sProp 𝕄) : sProp 𝕄 :=
  wp frame (wpE (defs₀ (F := F)) 𝒱₀ (c : Thread nD τ) none) Set.univ P Q

/-- Device `c` owes `O`, whatever it has waited for. -/
def owing (c : Dev nD) (O : CellTallies nD τ sig Unit) : sProp 𝕄 := iprop(∃ W, owes (c : Thread nD τ) O W)

/-- All counters' invariants, and that every counter has reached round 0. -/
def records : sProp 𝕄 :=
  bigSep Finset.univ fun p : Dev nD × Ch => iprop(cellInv EX (sched m) (K p) (cell p.1 p.2) ∗ reached EX (cell p.1 p.2) 0)

instance records_persistent : BI.Persistent (records m K) := by unfold records; infer_instance

theorem record_at (c : Dev nD) (j : Ch) :
    records m K ⊢ iprop(cellInv EX (sched m) (K (c, j)) (cell c j) ∗ reached EX (cell c j) 0) := by
  unfold records
  exact bigSep_elim (i := (c, j)) (Finset.mem_univ _)
theorem record_bar (c : Dev nD) : records m K ⊢ iprop(cellInv EX (sched m) (K (c, .inl ())) (barCell c) ∗ reached EX (barCell c) 0) :=
  record_at m K c (.inl ())
theorem record_send (c : Dev nD) (k : Fin 3) :
    records m K ⊢ iprop(cellInv EX (sched m) (K (c, .inr (.inl k))) (sendCell c k) ∗ reached EX (sendCell c k) 0) :=
  record_at m K c (.inr (.inl k))
theorem record_recv (c : Dev nD) (k : Fin 3) :
    records m K ⊢ iprop(cellInv EX (sched m) (K (c, .inr (.inr k))) (recvCell c k) ∗ reached EX (recvCell c k) 0) :=
  record_at m K c (.inr (.inr k))

/-- A guarded statement runs if it does so in both cases. -/
theorem runs_guard {α : Type} {c : Dev nD} {p : Prop} [Decidable p] {A : p → Pg F PUnit}
    {k : PUnit → Pg F α} {Q : α → sProp 𝕄} {P R : sProp 𝕄}
    (hyes : ∀ h : p, P ⊢ iprop(R -∗ runs c ((A h).bind k) Q)) (hno : ¬ p → P ⊢ iprop(R -∗ runs c (k ⟨⟩) Q)) :
    P ⊢ iprop(R -∗ runs c ((guarded p A).bind k) Q) := by
  by_cases h : p
  · rw [show guarded p A = A h from by unfold guarded; exact dif_pos h]; exact hyes h
  · rw [show guarded p A = Prog.ret ⟨⟩ from by unfold guarded; exact dif_neg h]; exact hno h

section Steps

variable {α : Type} {cont : PUnit → Pg F α} (c : Dev nD) (k : Fin 3) {Q : α → sProp (MT nD τ sig Unit (Elt F) ℕ UU ℕ)}

/-- What is left of slot `k + 1` after the signal: it is lent out if there is a device below. -/
def kept (c : Dev nD) (k : Fin 3) : sProp 𝕄 := if Below c k then iprop(emp) else slotAny c k

/-- A signal to the device `k + 1` places below, if there is one, lends it slot `k + 1`. -/
theorem step_signal {p : Prop} [Decidable p] (hp : Iff p (Below c k)) (n : p → Dev nD) (hn : ∀ h, n h = dn c k)
    {O₀ : CellTallies nD τ sig Unit} (O : CellTallies nD τ sig Unit) (hO : O₀ = O + oSig c k) :
    iprop(records m K ∗ owing c O₀ ∗ dutyTok EX (barCell (dn c k)) 0 k ∗ slotAny c k)
      ⊢ iprop((owing c O ∗ kept c k -∗ runs c (cont ⟨⟩) Q)
          -∗ runs c ((guarded p fun h => Prog.op (.semSignal (n h : Thread nD τ) barS (1#32).toNat) fun _ => Prog.ret ⟨⟩).bind cont) Q) := by
  refine runs_guard (fun h => ?_) (fun h => ?_)
  · have hb := hp.mp h
    rw [hn h]
    unfold owing
    iintro ⟨#HR, ⟨%W, HO⟩, Ht, Hs⟩ Hk
    ihave HB := (record_bar m K (dn c k)) $$ HR
    icases HB with ⟨#HI, #Hr⟩
    iapply (Rounds.wp_signal 𝒱₀ EX (sched m) (c : Thread nD τ) none (dst := (dn c k : Thread nD τ)) (κ := K (dn c k, .inl ()))
      (d := k) (mem_duties_bar m (dn c k) k ((above_dn c k).mpr hb)) ((amount_bar m (dn c k) k).trans (by decide)) () O (O₀ := O₀) (by rw [hO, oSig, if_pos hb]; rfl))
      $$ [HO Ht Hs]
    · isplitr; · iexact HI
      isplitl [HO]; · iexact HO
      isplitl [Ht]; · iexact Ht
      isplitl [Hs]
      · rw [payload_bar, up_dn]; iexact Hs
      · iexact Hr
    iintro HO
    iapply Hk
    unfold kept
    rw [if_pos hb]
    isplitl [HO]
    · iexists W; iexact HO
    · iempintro
  · have hb : ¬ Below c k := fun hb => h (hp.mpr hb)
    iintro ⟨-, HO, -, Hs⟩ Hk
    iapply Hk
    unfold kept
    rw [if_neg hb]
    isplitl [HO]
    · rw [hO, oSig, if_neg hb, add_zero]; iexact HO
    · iexact Hs

/-! ### What a whole round hands over -/

/-- The round of a barrier counter hands over the slots of the devices above. -/
theorem rest_bar : (bigSep ((sched (F := F) m).duties (barCell c) 0 \ ∅) fun d => (sched (F := F) m).payload (barCell c) 0 d) ⊢ bigSep Finset.univ (slotUp c) := by
  rw [Finset.sdiff_empty, duties_bar, bigSep_congr fun k _ => payload_bar m c k]
  exact bigSep_guard (Above c) fun k => slotAny (F := F) (up c k) k
/-- The round of an arrival counter hands over the slot with the total in it. -/
theorem rest_recv (hb : Below c k) : (bigSep ((sched (F := F) m).duties (recvCell c k) 0 \ ∅) fun d => (sched (F := F) m).payload (recvCell c k) 0 d)
    ⊢ slotAt c k (totalOf (xin m (dn c k))) := by
  rw [Finset.sdiff_empty, duties_recv, if_pos hb, bigSep_singleton, payload_recv]
/-- The round of a departure counter hands back the share of the total's buffer. -/
theorem rest_send (ha : Above c k) : (bigSep ((sched (F := F) m).duties (sendCell c k) 0 \ ∅) fun d => (sched (F := F) m).payload (sendCell c k) 0 d)
    ⊢ totPts c (part k) (totalOf (xin m c)) := by
  rw [Finset.sdiff_empty, duties_send, if_pos ha, bigSep_singleton, payload_send]

/-! ### The barrier wait -/

/-- The barrier of device `c`: waited for, with the slots of the devices above in hand, or not yet. -/
def barSt (c : Dev nD) (done : Prop) [Decidable done] : sProp 𝕄 :=
  if done then iprop(semVal (barCell c) 0 ∗ bigSep Finset.univ (slotUp c))
  else iprop(atPos EX (barCell c) 0 ∅ 0 ∗ cred (tallyAt (barCell c) () (3 - c.val)))

/-- Device `j` waits for the units of all devices above it, and with them it has their slots. -/
theorem step_bar {p : Prop} [Decidable p] (j : Fin 3) (hp : Iff p (c.val = j.val)) (w : ℕ) (hw : w = 3 - j.val)
    (a b : ℕ) (ha : a = j.val) (hb : b = j.val + 1) :
    iprop(records m K ∗ levAts L lv ∗ owing c (O₁ c) ∗ barSt c (c.val < a))
      ⊢ iprop((owing c (O₁ c) ∗ barSt c (c.val < b) -∗ runs c (cont ⟨⟩) Q)
          -∗ runs c ((guarded p fun _ => Prog.op (.semWait barS w) fun _ => Prog.ret ⟨⟩).bind cont) Q) := by
  subst ha hb
  refine runs_guard (fun h => ?_) (fun h => ?_)
  · have hc := hp.mp h
    unfold barSt
    rw [if_neg (by omega : ¬ c.val < j.val), if_pos (by omega : c.val < j.val + 1)]
    unfold owing
    iintro ⟨#HR, #Hlev, ⟨%W, HO⟩, Hat, Hcr⟩ Hk
    ihave HB := (record_bar m K c) $$ HR
    icases HB with ⟨#HI, #Hr⟩
    iapply (Rounds.wp_wait_rest_token 𝒱₀ EX (sched m) (c : Thread nD τ) none (κ := K (c, .inl ()))
      (wpE_semWait_eq 𝒱₀ (c : Thread nD τ) none Set.univ) (Set.mem_univ _) () (O := O₁ c) (W := W) (R := 0) (m := 0) (T := ∅)
      (by rw [expect_bar, hw, hc, Nat.zero_add])) $$ [Hcr HO Hat]
    · isplitr; · iexact HI
      isplitl [Hcr]; · rw [hw, ← hc]; iexact Hcr
      isplitl [HO]; · iexact HO
      isplitr; · iapply (mayWait_bar c); iexact Hlev
      iexact Hat
    iintro ⟨HO, Hat, -, Hpay⟩
    imod (Rounds.cell_close EX (sched m) (Set.mem_univ (K (c, .inl ()))) (fun h => h) (R := 0 + 1) (duties_later m (barCell c))) $$ [Hat] with Hz
    · isplitr; · iexact HI
      iexact Hat
    iapply Hk
    isplitl [HO]
    · iexists _; iexact HO
    isplitl [Hz]
    · iexact Hz
    · iapply (rest_bar m c) $$ Hpay
  · have hc : c.val ≠ j.val := fun hc => h (hp.mpr hc)
    iintro ⟨-, -, HO, Hs⟩ Hk
    iapply Hk
    isplitl [HO]; · iexact HO
    unfold barSt
    by_cases hlt : c.val < j.val
    · rw [if_pos hlt, if_pos (by omega : c.val < j.val + 1)]; exact BI.Entails.refl _
    · rw [if_neg hlt, if_neg (by omega : ¬ c.val < j.val + 1)]; exact BI.Entails.refl _

/-- After the three guarded waits every device is past its barrier: the top one has nothing to wait for. -/
theorem bar_end :
    iprop(records m K ∗ barSt c (c.val < 3)) ⊢ iprop(|={Set.univ}=> (semVal (barCell c) 0 ∗ bigSep Finset.univ (slotUp (F := F) c))) := by
  unfold barSt
  by_cases hc : c.val < 3
  · rw [if_pos hc]
    iintro ⟨-, H⟩
    imodintro
    iexact H
  · rw [if_neg hc]
    have h3 : c.val = 3 := by have := c.isLt; have : c.val < 4 := this; omega
    iintro ⟨#HR, Hat, -⟩
    ihave HB := (record_bar m K c) $$ HR
    icases HB with ⟨#HI, -⟩
    imod (Rounds.cell_close EX (sched m) (Set.mem_univ (K (c, .inl ()))) (fun h => h) (R := 0) (duties_bar_none m c h3)) $$ [Hat] with Hz
    · isplitr; · iexact HI
      iexact Hat
    imodintro
    isplitl [Hz]
    · iexact Hz
    · rw [show slotUp (F := F) c = fun _ => (iprop(emp) : sProp 𝕄) from funext fun k => if_neg (by unfold Above; omega),
        show (bigSep Finset.univ fun _ : Fin 3 => (iprop(emp) : sProp 𝕄)) = iprop(emp) from bigSep_emp_const _]
      iempintro

/-! ### The transfers -/

/-- After the transfer over `k + 1` steps: its payment on the departure counter is due, or there was none and the share is still here. -/
def sent (c : Dev nD) (k : Fin 3) : sProp 𝕄 :=
  if Above c k then cred (tallyAt (sendCell c k) () N) else totPts c (part k) (totalOf (xin m c))

/-- What the transfer leaves in the slot reads as the total sent. -/
theorem landed_read (d : Dev nD) (f : Buf (Elt F) ((slotM k).view.loc (d : Thread nD τ))) (X : FVec F S1x512 .f32) :
    (slotM k).view.read (Elt F) ((slotM k).view.write (Elt F) f ((tM : Memref sig .tc .vmem S1x512 .f32).view.read (Elt F) X) Finset.univ) = X := by
  rw [View.read_write_univ]
  exact View.read_whole _ _

/-- The transfer of the total to the device `k + 1` places above, if there is one, into the slot lent by it. -/
theorem step_send {p : Prop} [Decidable p] (hp : Iff p (Above c k)) (n : p → Dev nD) (hn : ∀ h, n h = up c k)
    (M : Memref sig .tc .vmem S1x512 .f32) (hM : M = slotM k) (s r : DmaSem sig) (hs : s = sendS k) (hr : r = recvS k)
    {hsc : ∀ h, (M : Memref sig (Dev.tc (n h) : Thread nD τ).2.kind .vmem S1x512 .f32).view.ref.isScScratch = false}
    {hsrc : p → (tM : Memref sig .tc .vmem S1x512 .f32).view.WordExact} {hdst : p → M.view.WordExact}
    {hsem : ∀ h, DmaTarget.Typed .vmem (.dma r) (.remote (Dev.tc (n h) : Thread nD τ) M (.dma s) (hsc h))}
    {O₀ : CellTallies nD τ sig Unit} (O : CellTallies nD τ sig Unit) (hO : O₀ = O + oSend c k) :
    iprop(records m K ∗ owing c O₀ ∗ dutyTok EX (sendCell c k) 0 k ∗ dutyTok EX (recvCell (up c k) k) 0 k
        ∗ totPts c (part k) (totalOf (xin m c)) ∗ slotUp c k)
      ⊢ iprop((owing c O ∗ sent m c k -∗ runs c (cont ⟨⟩) Q)
          -∗ runs c ((guarded p fun h => Prog.op (.enqueueDma tM (.remote (Dev.tc (n h) : Thread nD τ) M (.dma s) (hsc h)) (.dma r) (hsrc h) (hdst h) (hsem h)) fun _ => Prog.ret ⟨⟩).bind cont) Q) := by
  subst hM hs hr
  refine runs_guard (fun h => ?_) (fun h => ?_)
  · have ha := hp.mp h
    obtain ⟨n', hn'⟩ : ∃ n', n h = n' := ⟨_, rfl⟩
    have hu : n' = up c k := hn'.symm.trans (hn h)
    generalize hsc h = hsc'
    generalize hsem h = hsem'
    revert hsc' hsem'
    rw [hn h]
    intro hsc' hsem'
    unfold slotUp totPts slotAny
    rw [if_pos ha]
    unfold owing
    iintro ⟨#HR, ⟨%W, HO⟩, Hts, Htr, Hx, ⟨%f, Hf⟩⟩ Hk
    unfold slotPts
    ihave HS := (record_send m K c k) $$ HR
    icases HS with ⟨#HIs, #Hrs⟩
    ihave HV := (record_recv m K (up c k) k) $$ HR
    icases HV with ⟨#HIr, #Hrr⟩
    iapply (Rounds.wp_send_pointsTo 𝒱₀ EX (sched m) (c : Thread nD τ) none (κ₁ := K (c, .inr (.inl k))) (κ₂ := K (up c k, .inr (.inr k)))
      (r₁ := 0) (r₂ := 0) (d₁ := k) (d₂ := k) (fd := f)
      (mem_duties_send m c k ha) (mem_duties_recv m (up c k) k ((below_up c k).mpr ha))
      () () N rfl (amount_dma m c k _) (amount_dma m (up c k) k _) O (O₀ := O₀) (by rw [hO, oSend, if_pos ha]) (W := W)
      (by rw [payload_send]; exact BI.Entails.refl _)
      (by
        rw [payload_recv, dn_up]
        unfold slotAt slotPts
        iintro H
        iexists _
        isplitr
        · ipureintro; exact landed_read k (up c k) f (totalOf (xin m c))
        · iexact H)) $$ [HO Hts Htr Hx Hf]
    · isplitr; · iexact HIs
      isplitr; · iexact HIr
      isplitl [Hx]; · iexact Hx
      isplitl [Hf]; · iexact Hf
      isplitl [HO]; · iexact HO
      isplitl [Hts]; · iexact Hts
      isplitr; · iexact Hrs
      isplitl [Htr]; · iexact Htr
      iexact Hrr
    iintro ⟨Hc, HO⟩
    iapply Hk
    unfold sent
    rw [if_pos ha]
    isplitl [HO]
    · iexists W; iexact HO
    · iexact Hc
  · have ha : ¬ Above c k := fun ha => h (hp.mpr ha)
    iintro ⟨-, HO, -, -, Hx, -⟩ Hk
    iapply Hk
    unfold sent
    rw [if_neg ha]
    isplitl [HO]
    · rw [hO, oSend, if_neg ha, add_zero]; iexact HO
    · iexact Hx

/-! ### The waits for the transfers -/

/-- What slot `k + 1` holds once nothing more is awaited for it: the total of the device `k + 1` places below, if there is one. -/
def arrived (c : Dev nD) (k : Fin 3) : sProp 𝕄 :=
  iprop(∃ f, ⌜Below c k → (slotM k).view.read (Elt F) f = totalOf (xin m (dn c k))⌝ ∗ slotPts c k f)

/-- The wait for the total of the device `k + 1` places below, if there is one. -/
theorem step_arrive {p : Prop} [Decidable p] (hp : Iff p (Below c k)) (M : Memref sig .tc .vmem S1x512 .f32) (hM : M = slotM k)
    (r : DmaSem sig) (hr : r = recvS k) {hsrc : p → (tM : Memref sig .tc .vmem S1x512 .f32).view.WordExact} {hdst : p → M.view.WordExact} :
    iprop(records m K ∗ owing c 0 ∗ atPos EX (recvCell c k) 0 ∅ 0 ∗ cred (tallyAt (recvCell c k) () (if Below c k then N else 0)) ∗ kept c k)
      ⊢ iprop((owing c 0 ∗ semVal (recvCell c k) 0 ∗ arrived m c k -∗ runs c (cont ⟨⟩) Q)
          -∗ runs c ((guarded p fun h => Prog.op (.waitDma2 r tM M (hsrc h) (hdst h)) fun _ => Prog.ret ⟨⟩).bind cont) Q) := by
  subst hM hr
  refine runs_guard (fun h => ?_) (fun h => ?_)
  · have hb := hp.mp h
    rw [if_pos hb]
    unfold owing
    iintro ⟨#HR, ⟨%W, HO⟩, Hat, Hcr, -⟩ Hk
    ihave HV := (record_recv m K c k) $$ HR
    icases HV with ⟨#HI, -⟩
    iapply (Rounds.wp_wait_rest_token 𝒱₀ EX (sched m) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, expect_recv m c k hb])) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    imod (Rounds.cell_close EX (sched m) (Set.mem_univ (K (c, .inr (.inr k)))) (fun h => h) (R := 0 + 1) (duties_later m (recvCell c k))) $$ [Hat] with Hz
    · isplitr; · iexact HI
      iexact Hat
    ihave Hpay := (rest_recv m c k hb) $$ Hpay
    iapply Hk
    isplitl [HO]
    · iexists _; iexact HO
    isplitl [Hz]
    · iexact Hz
    unfold slotAt arrived
    icases Hpay with ⟨%f, %hf, Hf⟩
    iexists f
    isplitr
    · ipureintro; exact fun _ => hf
    · iexact Hf
  · have hb : ¬ Below c k := fun hb => h (hp.mpr hb)
    unfold kept slotAny
    rw [if_neg hb, if_neg hb]
    iintro ⟨#HR, HO, Hat, -, ⟨%f, Hf⟩⟩ Hk
    ihave HV := (record_recv m K c k) $$ HR
    icases HV with ⟨#HI, -⟩
    imod (Rounds.cell_close EX (sched m) (Set.mem_univ (K (c, .inr (.inr k)))) (fun h => h) (R := 0) (duties_recv_none m c k hb)) $$ [Hat] with Hz
    · isplitr; · iexact HI
      iexact Hat
    iapply Hk
    isplitl [HO]; · iexact HO
    isplitl [Hz]
    · iexact Hz
    unfold arrived
    iexists f
    isplitr
    · ipureintro; exact fun hb' => absurd hb' hb
    · iexact Hf

/-- The wait for the transfer over `k + 1` steps to have left, if there is one. -/
theorem step_left {p : Prop} [Decidable p] (hp : Iff p (Above c k)) (M : Memref sig .tc .vmem S1x512 .f32) (hM : M = slotM k)
    (s : DmaSem sig) (hs : s = sendS k) {hsrc : p → M.view.WordExact} {hdst : p → (tM : Memref sig .tc .vmem S1x512 .f32).view.WordExact} :
    iprop(records m K ∗ owing c 0 ∗ atPos EX (sendCell c k) 0 ∅ 0 ∗ sent m c k)
      ⊢ iprop((owing c 0 ∗ semVal (sendCell c k) 0 ∗ totPts c (part k) (totalOf (xin m c)) -∗ runs c (cont ⟨⟩) Q)
          -∗ runs c ((guarded p fun h => Prog.op (.waitDma2 s M tM (hsrc h) (hdst h)) fun _ => Prog.ret ⟨⟩).bind cont) Q) := by
  subst hM hs
  refine runs_guard (fun h => ?_) (fun h => ?_)
  · have ha := hp.mp h
    unfold sent
    rw [if_pos ha]
    unfold owing
    iintro ⟨#HR, ⟨%W, HO⟩, Hat, Hcr⟩ Hk
    ihave HV := (record_send m K c k) $$ HR
    icases HV with ⟨#HI, -⟩
    iapply (Rounds.wp_wait_rest_token 𝒱₀ EX (sched m) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send m c k ha])) $$ [Hcr HO Hat]
    · isplitr; · iexact HI
      isplitl [Hcr]; · iexact Hcr
      isplitl [HO]; · iexact HO
      isplitr; · rw [MayWait_zero]; iempintro
      iexact Hat
    iintro ⟨HO, Hat, -, Hpay⟩
    imod (Rounds.cell_close EX (sched m) (Set.mem_univ (K (c, .inr (.inl k)))) (fun h => h) (R := 0 + 1) (duties_later m (sendCell c k))) $$ [Hat] with Hz
    · isplitr; · iexact HI
      iexact Hat
    ihave Hpay := (rest_send m c k ha) $$ Hpay
    iapply Hk
    isplitl [HO]
    · iexists _; iexact HO
    isplitl [Hz]
    · iexact Hz
    · iexact Hpay
  · have ha : ¬ Above c k := fun ha => h (hp.mpr ha)
    unfold sent
    rw [if_neg ha]
    iintro ⟨#HR, HO, Hat, Hx⟩ Hk
    ihave HV := (record_send m K c k) $$ HR
    icases HV with ⟨#HI, -⟩
    imod (Rounds.cell_close EX (sched m) (Set.mem_univ (K (c, .inr (.inl k)))) (fun h => h) (R := 0) (duties_send_none m c k ha)) $$ [Hat] with Hz
    · isplitr; · iexact HI
      iexact Hat
    iapply Hk
    isplitl [HO]; · iexact HO
    isplitl [Hz]
    · iexact Hz
    · iexact Hx

end Steps

end Cert.RunProd

end
-- ==== Proof.Buffers.lean ====
/-
The two scratch buffers of a device, cut for the exchange and put together again: the landing buffer into its three slots
and what is left of it, the total's buffer into the three shares the transfers read. Then what the body reads from a slot,
and the result it computes from the slots.
-/
module

public import proofs.«01_k».proof.Proof.Steps
public import Idealize.ShloMosaic.Lib.Ring.FamCut
public import Idealize.ShloMosaic.Lib.ReshapeSlab

@[expose] public section

noncomputable section

namespace Cert.RunProd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ### The landing buffer and its slots -/

/-- The elements of slot `k + 1`. -/
abbrev slotSet (k : Fin 3) : Finset (rM : Memref sig .tc .vmem S4x1x512 .f32).view.ref.ty.shape.Idx := (slotM k).view.set

theorem slotSet_eq (k : Fin 3) : slotSet k = ((rM : Memref sig .tc .vmem S4x1x512 .f32).access (rowR k)).set := View.set_reshape _ _

/-- Different slots share no element. -/
theorem slots_apart (k k' : Fin 3) (h : k ≠ k') : Disjoint (slotSet k) (slotSet k') := by
  rw [slotSet_eq, slotSet_eq]
  refine View.disjoint_slice_of_sep _ (rowR k) (rowR k') (0 : Fin 3) rfl rfl ?_
  show k.val + 1 + 1 ≤ k'.val + 1 ∨ k'.val + 1 + 1 ≤ k.val + 1
  have : k.val ≠ k'.val := fun e => h (Fin.ext e)
  omega

/-- The elements of the landing buffer in none of the three slots, at any contents. -/
def spare (c : Dev nD) : sProp 𝕄 :=
  iprop(∃ f : Buf (Elt F) ((c : Thread nD τ).loc cc0_scratch1), ((c : Thread nD τ).loc cc0_scratch1) ↦[Ring.restOf (ℓ := (c : Thread nD τ).loc cc0_scratch1) slotSet]{fullShare} f)

/-- The landing buffer whole, at any contents. -/
def landing (c : Dev nD) : sProp 𝕄 :=
  iprop(∃ f : Buf (Elt F) ((c : Thread nD τ).loc cc0_scratch1), ((c : Thread nD τ).loc cc0_scratch1) ↦{fullShare} f)

omit [FloatOps F] in
theorem landing_cut (c : Dev nD) : landing (F := F) c ⊢ iprop((bigSep Finset.univ fun k => slotAny (F := F) c k) ∗ spare c) := by
  unfold landing spare slotAny slotPts
  exact Ring.fam_split_ex (ℓ := (c : Thread nD τ).loc cc0_scratch1) slotSet slots_apart

omit [FloatOps F] in
theorem landing_whole (c : Dev nD) : iprop((bigSep Finset.univ fun k => slotAny (F := F) c k) ∗ spare c) ⊢ landing (F := F) c := by
  unfold spare
  iintro ⟨Hs, ⟨%f, Hf⟩⟩
  unfold landing slotAny slotPts
  iapply (Ring.fam_join (ℓ := (c : Thread nD τ).loc cc0_scratch1) slotSet slots_apart f)
  isplitl [Hs]
  · iexact Hs
  · iexists f; iexact Hf

/-- A slot whose total has arrived is a slot at some contents. -/
theorem arrived_any (c : Dev nD) (k : Fin 3) : arrived m c k ⊢ slotAny c k := by
  unfold arrived slotAny
  iintro ⟨%f, -, Hf⟩
  iexists f
  iexact Hf

/-! ### The total's buffer and its shares -/

omit [FloatOps F] in
theorem tot_cut (c : Dev nD) (f) : totPts (F := F) c fullShare f ⊢ iprop(totPts c (part 0) f ∗ totPts c (part 1) f ∗ totPts c (part 2) f) := by
  unfold totPts part
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]; · iexact H0
  isplitl [H1]; · iexact H1
  iexact H2

omit [FloatOps F] in
theorem tot_whole (c : Dev nD) (f) : iprop(totPts (F := F) c (part 0) f ∗ totPts c (part 1) f ∗ totPts c (part 2) f) ⊢ totPts (F := F) c fullShare f := by
  unfold totPts part
  iintro ⟨H0, H1, H2⟩
  ihave H := (pointsTo_share (PosShare.mem_left_op_right fullShare.right)).2 $$ [H1 H2]
  · isplitl [H1]; · iexact H1
    iexact H2
  iapply (pointsTo_share (PosShare.mem_left_op_right fullShare)).2
  isplitl [H0]; · iexact H0
  iexact H

/-! ### Reading a slot -/

omit [FloatOps F] in
/-- A slot is its row of the landing buffer. -/
theorem slotPts_row (c : Dev nD) (k : Fin 3) (f) :
    slotPts c k f = (((rM : Memref sig .tc .vmem S4x1x512 .f32).access (rowR k)).loc (c : Thread nD τ) ↦[slotSet k]{fullShare} f : sProp 𝕄) := rfl

/-- The load of row `k + 1` of the landing buffer finds the total of the device `k + 1` places below, if there is one. -/
theorem step_look {α : Type} (c : Dev nD) (k : Fin 3) {Q : α → sProp (MT nD τ sig Unit (Elt F) ℕ UU ℕ)}
    {hl : (rM : Memref sig .tc .vmem S4x1x512 .f32).view.LoadsAt (rowR k).toLoadRect} {cont : Vec F S1x1x512 .f32 → Pg F α} :
    arrived m c k
      ⊢ iprop((∀ v : Vec F S1x1x512 .f32, ⌜Below c k → shapeCast S1x512 v shapeCasts_S1x1x512_S1x512 = totalOf (xin m (dn c k))⌝ -∗ arrived m c k -∗ runs c (cont v) Q)
          -∗ runs c (Prog.op (.load rM (rowR k).toLoadRect hl) cont) Q) := by
  unfold arrived
  iintro ⟨%f, %hf, Hf⟩ Hk
  ihave Hf := (Entails.of_eq (slotPts_row c k f)) $$ Hf
  iapply (wp_load_rect 𝒱₀ (c : Thread nD τ) none Set.univ (m := rM) (r := rowR k) (S := slotSet k) (f := f) (by rw [slotSet_eq])) $$ Hf
  iintro Hf
  iapply Hk $$ %(((rM : Memref sig .tc .vmem S4x1x512 .f32).access (rowR k)).read (Elt F) f)
  · ipureintro; exact hf
  · iexists f
    isplitr
    · ipureintro; exact hf
    · iapply (Entails.of_eq (slotPts_row c k f).symm); iexact Hf

/-! ### The result -/

/-- The factor for the device `k + 1` places below `c`: its total, or ones if there is no such device. -/
def fac (c : Dev nD) (k : Fin 3) : FVec F S1x512 .f32 :=
  if Below c k then totalOf (xin m (dn c k)) else broadcast S1x512 (one32 (F := F))

/-- The result on device `c`: the running products of its own block, times the totals of the devices below. -/
def outAt (c : Dev nD) : FVec F S1024x512 .f32 :=
  mulf (k0_pay5 (k0_pay3 (k0_pay2 (xin m c)) one32))
    (broadcastTo S1024x512 (mulf (mulf (mulf (broadcast S1x512 (one32 (F := F))) (fac m c 0)) (fac m c 1)) (fac m c 2)) broadcasts_S1x512_S1024x512)

/-- Choosing by the comparison of places gives the factor. -/
theorem choose_fac (c : Dev nD) (k : Fin 3) (v : FVec F S1x512 .f32) (hv : Below c k → v = totalOf (xin m (dn c k))) :
    (Scalar.select (Scalar.cmpi .sge (place c) (stepWord k)) v (broadcast S1x512 (one32 (F := F))) : FVec F S1x512 .f32) = fac m c k := by
  unfold Scalar.select fac
  by_cases hb : Below c k
  · rw [if_pos hb]
    exact (if_pos ((sge_iff c k).mpr hb)).trans (hv hb)
  · rw [if_neg hb]
    exact if_neg fun h => hb ((sge_iff c k).mp h)

/-- What the body stores is the result. -/
theorem stored_eq (c : Dev nD) (v0 v1 v2 : Vec F S1x1x512 .f32)
    (h0 : Below c 0 → shapeCast S1x512 v0 shapeCasts_S1x1x512_S1x512 = totalOf (xin m (dn c 0)))
    (h1 : Below c 1 → shapeCast S1x512 v1 shapeCasts_S1x1x512_S1x512 = totalOf (xin m (dn c 1)))
    (h2 : Below c 2 → shapeCast S1x512 v2 shapeCasts_S1x1x512_S1x512 = totalOf (xin m (dn c 2))) :
    k0_pay1 (k0_pay5 (k0_pay3 (k0_pay2 (xin m c)) one32)) (k0_pay6 (place c) v0 v1) (Scalar.cmpi .sge (place c) 3#32) v2 = outAt m c := by
  unfold outAt
  rw [← choose_fac m c 0 _ h0, ← choose_fac m c 1 _ h1, ← choose_fac m c 2 _ h2]
  rfl

end Cert.RunProd

end
-- ==== Proof.Body.lean ====
/-
The body of the kernel on one device, run statement by statement: from the two scratch buffers, the device's part of the
exchange and its block of the input, to the block of the result with every counter back at zero.
-/
module

public import proofs.«01_k».proof.Proof.Buffers
public import proofs.«01_k».proof.Proof.Gen.KernelIdeal.Launch

@[expose] public section

noncomputable section

namespace Cert.RunProd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What a device starts from and ends with -/

/-- The two semaphores of the scratch arrays that the kernel never uses, those numbered 0. -/
abbrev idleS : Fin 2 → DmaSem sig := fun
  | 0 => ((cc0_scratch2.slice (Rect.unit (s := S4) ![0] S1.size (by decide))).squeeze S_ squeezes_S1_S_).sem
  | 1 => ((cc0_scratch3.slice (Rect.unit (s := S4) ![0] S1.size (by decide))).squeeze S_ squeezes_S1_S_).sem
def idle (c : Dev nD) : sProp 𝕄 := iprop(semVal ((c : Thread nD τ), .dma (idleS 0)) 0 ∗ semVal ((c : Thread nD τ), .dma (idleS 1)) 0)

/-- A conjunction over three numbers, and over the names of a device's counters. -/
theorem all3 (Φ : Fin 3 → sProp 𝕄) : bigSep Finset.univ Φ = iprop(Φ 0 ∗ Φ 1 ∗ Φ 2) := bigSep_univ_eq_bigSepL [0, 1, 2] (by decide) (by decide) Φ
theorem allCells (c : Dev nD) (Φ : GSem nD τ sig → sProp 𝕄) : (bigSep Finset.univ fun j : Ch => Φ (cell c j))
    = iprop(Φ (barCell c) ∗ Φ (sendCell c 0) ∗ Φ (sendCell c 1) ∗ Φ (sendCell c 2) ∗ Φ (recvCell c 0) ∗ Φ (recvCell c 1) ∗ Φ (recvCell c 2)) :=
  bigSep_univ_eq_bigSepL ([.inl (), .inr (.inl 0), .inr (.inl 1), .inr (.inl 2), .inr (.inr 0), .inr (.inr 1), .inr (.inr 2)] : List Ch) (by decide) (by decide)
    fun j => Φ (cell c j)

/-- The rights to the payments device `c` makes over `k + 1` steps: one on the barrier below, one on its own departure
    counter and one on the arrival counter above. -/
def payTok (c : Dev nD) (k : Fin 3) : sProp 𝕄 :=
  iprop(dutyTok EX (barCell (dn c k)) 0 k ∗ dutyTok EX (sendCell c k) 0 k ∗ dutyTok EX (recvCell (up c k) k) 0 k)

/-- Device `c`'s part of the exchange: its places on its seven counters and the rights to its payments. -/
def share (c : Dev nD) : sProp 𝕄 :=
  iprop((bigSep Finset.univ fun j : Ch => atPos EX (cell c j) 0 ∅ 0) ∗ (bigSep Finset.univ fun k => payTok c k) ∗ idle c)

/-- What device `c` starts from: the records of the exchange, its part of it, and what it may expect to be paid. -/
def start (c : Dev nD) : sProp 𝕄 :=
  iprop((∃ K, records m K ∗ share c)
    ∗ (cred (tallyAt (barCell c) () (3 - c.val)) ∗ bigSep Finset.univ fun k : Fin 3 => cred (tallyAt (recvCell c k) () (if Below c k then N else 0)))
    ∗ levAts L lv)

/-- The total's buffer whole, at any contents. -/
def totAny (c : Dev nD) : sProp 𝕄 := iprop(∃ f, totPts (F := F) c fullShare f)

def Φ₀ (c : Dev nD) : sProp 𝕄 := iprop(start m c ∗ totAny c ∗ landing c)
def Φ₁ (c : Dev nD) : sProp 𝕄 :=
  iprop((bigSep Finset.univ fun j : Ch => semVal (cell c j) 0) ∗ idle c ∗ totAny c ∗ landing c)

/-- What the launch is told: the arrays' contents, what the point leaves in the staging buffers, the two states around the
    point, and the payments owed before and after it. -/
def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_x (t : Fin cfg0.N) : (cfg0.win (0 : Fin 2)).fetch t = true := by rw [fin_N0 t]; rfl

/-- A staging buffer holding `X`. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_holds (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns; simp only [Memref.view_whole, View.read_whole, View.set_whole]

/-! ## The program's sequence flattened -/

theorem seq_eq {α β : Type} (p : Pg F α) (f : α → Pg F β) : (p >>= f) = p.bind f := rfl
theorem seq_ret {α β : Type} (a : α) (f : α → Pg F β) : (Prog.ret a : Pg F α).bind f = f a := rfl
theorem seq_op {α β γ : Type} (e : TpuEff nD τ sig (Elt F) Λ₀ .tc γ) (r : γ → Pg F α) (f : α → Pg F β) :
    (Prog.op e r).bind f = Prog.op e fun x => (r x).bind f := rfl
theorem seq_assoc {α β γ : Type} (p : Pg F α) (f : α → Pg F β) (g : β → Pg F γ) :
    (p.bind f).bind g = p.bind fun a => (f a).bind g := Prog.bind_assoc p f g

theorem runs_end (c : Dev nD) (Q : PUnit → sProp (MT nD τ sig Unit (Elt F) ℕ UU ℕ)) : Q ⟨⟩ ⊢ runs c (Prog.ret ⟨⟩) Q := by
  unfold runs
  rw [wp_ret]
  iintro H
  imodintro
  iexact H

/-! ## Whole buffers read and written -/

theorem origin2 : (![0, 0] : Fin 2 → Nat) = fun _ => 0 := funext fun a => by fin_cases a <;> rfl

abbrev xR : Rect S1024x512 := Rect.unit (s := S1024x512) ![0, 0] S1024x512.size inb_S1024x512_S1024x512_0_0
abbrev tR : Rect S1x512 := Rect.unit (s := S1x512) ![0, 0] S1x512.size inb_S1x512_S1x512_0_0

omit [FloatOps F] in
theorem load_x (f : (cc0_stg0_0 : Ref sig .tc).ty.Contents (Elt F)) : (xM : Memref sig .tc .vmem S1024x512 .f32).view.readAt (Elt F) xR.toLoadRect f = f :=
  Memref.readAt_unit_zero (Elt F) cc0_stg0_0 origin2 _ f
omit [FloatOps F] in
theorem store_o (f w : (cc0_stg1_0 : Ref sig .tc).ty.Contents (Elt F)) :
    ((oM : Memref sig .tc .vmem S1024x512 .f32).access xR : View sig .tc _ _ _).write (Elt F) f w Finset.univ = w :=
  Memref.write_access_unit_zero_univ (Elt F) cc0_stg1_0 origin2 _ f w
omit [FloatOps F] in
theorem store_t (f w : (cc0_scratch0 : Ref sig .tc).ty.Contents (Elt F)) :
    ((tM : Memref sig .tc .vmem S1x512 .f32).access tR : View sig .tc _ _ _).write (Elt F) f w Finset.univ = w :=
  Memref.write_access_unit_zero_univ (Elt F) cc0_scratch0 origin2 _ f w

omit [FloatOps F] in
theorem totPts_eq (c : Dev nD) (q) (f) : totPts (F := F) c q f = (((c : Thread nD τ).loc cc0_scratch0) ↦{q} f : sProp 𝕄) := by
  unfold totPts; rw [View.set_whole]

/-! ## The program's names for the slots and semaphores -/

theorem slot1_eq : (rM.slice (Rect.unit (s := S4x1x512) ![1, 0, 0] ![1, 1, 512] inb_S4x1x512_S1x1x512_1_0_0) (fun _ => rfl)).squeeze S1x512 squeezes_S1x1x512_S1x512 = slotM 0 := rfl
theorem send1_eq : ((cc0_scratch2.slice (Rect.unit (s := S4) ![1] ![1] inb_S4_S1_1)).squeeze S_ squeezes_S1_S_).sem = sendS 0 := rfl
theorem recv1_eq : ((cc0_scratch3.slice (Rect.unit (s := S4) ![1] ![1] inb_S4_S1_1)).squeeze S_ squeezes_S1_S_).sem = recvS 0 := rfl
theorem slot2_eq : (rM.slice (Rect.unit (s := S4x1x512) ![2, 0, 0] ![1, 1, 512] inb_S4x1x512_S1x1x512_2_0_0) (fun _ => rfl)).squeeze S1x512 squeezes_S1x1x512_S1x512 = slotM 1 := rfl
theorem send2_eq : ((cc0_scratch2.slice (Rect.unit (s := S4) ![2] ![1] inb_S4_S1_2)).squeeze S_ squeezes_S1_S_).sem = sendS 1 := rfl
theorem recv2_eq : ((cc0_scratch3.slice (Rect.unit (s := S4) ![2] ![1] inb_S4_S1_2)).squeeze S_ squeezes_S1_S_).sem = recvS 1 := rfl
theorem slot3_eq : (rM.slice (Rect.unit (s := S4x1x512) ![3, 0, 0] ![1, 1, 512] inb_S4x1x512_S1x1x512_3_0_0) (fun _ => rfl)).squeeze S1x512 squeezes_S1x1x512_S1x512 = slotM 2 := rfl
theorem send3_eq : ((cc0_scratch2.slice (Rect.unit (s := S4) ![3] ![1] inb_S4_S1_3)).squeeze S_ squeezes_S1_S_).sem = sendS 2 := rfl
theorem recv3_eq : ((cc0_scratch3.slice (Rect.unit (s := S4) ![3] ![1] inb_S4_S1_3)).squeeze S_ squeezes_S1_S_).sem = recvS 2 := rfl

/-! ## The body -/

section Run

def bodyPre (c : Dev nD) : sProp 𝕄 :=
  iprop(Φ₀ m c ∗ (dats m 0 c).owesAt () t0_0.castSucc
    ∗ (∃ d, holds c cc0_stg0_0 ((dats m 0 c).before (0 : Fin 2) t0_0 d))
    ∗ (∃ d, holds c cc0_stg1_0 ((dats m 0 c).before (1 : Fin 2) t0_0 d)))
def bodyPost (c : Dev nD) : sProp 𝕄 :=
  iprop(Φ₁ c ∗ (dats m 0 c).owesAt () t0_0.succ ∗ holds c cc0_stg0_0 (xin m c) ∗ holds c cc0_stg1_0 (outAt m c))

set_option maxRecDepth 8000 in
set_option maxHeartbeats 1600000 in
/-- The body runs from the state before the point to the state after it. -/
theorem body_runs (c : Dev nD) :
    bodyPre m c ⊢ runs c
      (cc0_body (F := F) (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => bodyPost m c) := by
  rw [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, seq_eq, seq_op, seq_ret, Prog.pure_eq_ret, guarded_rest, seq_assoc, wp_deviceId]
  unfold bodyPre Φ₀ start share totAny payTok Dat.owesAt Pipeline.owesWithin
  rw [allCells c fun g => atPos EX g 0 ∅ 0]
  simp only [all3]
  iintro ⟨⟨⟨⟨%K, #HR, ⟨HaB, HaS0, HaS1, HaS2, HaR0, HaR1, HaR2⟩, ⟨⟨HtB0, HtS0, HtR0⟩, ⟨HtB1, HtS1, HtR1⟩, ⟨HtB2, HtS2, HtR2⟩⟩, Hidle⟩,
    ⟨HcB, HcR0, HcR1, HcR2⟩, #Hlev⟩, ⟨%t, Ht⟩, Hland⟩, ⟨%W, %hW, HO⟩, ⟨%d0, %g0, %hg0, Hx⟩, ⟨%d1, %g1, %hg1, Hout⟩⟩
  have hx : g0 = xin m c := by rw [hg0]; unfold Dat.before; rw [if_pos (fetch_x t0_0)]; rfl
  subst hx
  ihave Hland := (landing_cut c) $$ Hland
  icases Hland with ⟨Hs, Hspare⟩
  ihave Hs := (Entails.of_eq (all3 _)) $$ Hs
  icases Hs with ⟨Hs0, Hs1, Hs2⟩
  ihave HO := (show owes (c : Thread nD τ) ((dats m 0 c).owed t0_0.castSucc) W ⊢ owing (F := F) c (O₀ c) from by
    unfold owing; iintro H; iexists W; iexact H) $$ HO
  -- the signals
  iapply (step_signal m K c 0 (cond1_iff c) _ (dev1_eq c) (O₁ c + oSig c 2 + oSig c 1) rfl) $$ [HO HtB0 Hs0]
  · isplitr; · iexact HR
    isplitl [HO]; · iexact HO
    isplitl [HtB0] <;> iassumption
  iintro ⟨HO, Hk0⟩
  iapply (step_signal m K c 1 (cond2_iff c) _ (dev2_eq c) (O₁ c + oSig c 2) rfl) $$ [HO HtB1 Hs1]
  · isplitr; · iexact HR
    isplitl [HO]; · iexact HO
    isplitl [HtB1] <;> iassumption
  iintro ⟨HO, Hk1⟩
  iapply (step_signal m K c 2 (cond3_iff c) _ (dev3_eq c) (O₁ c) rfl) $$ [HO HtB2 Hs2]
  · isplitr; · iexact HR
    isplitl [HO]; · iexact HO
    isplitl [HtB2] <;> iassumption
  iintro ⟨HO, Hk2⟩
  -- the block read and its total stored
  iapply (wp_load 𝒱₀ (c : Thread nD τ) none Set.univ (m := xM) (Finset.subset_univ _)) $$ Hx; iintro Hx
  rw [load_x]
  ihave Ht := (Entails.of_eq (totPts_eq c fullShare t)) $$ Ht
  iapply (wp_load 𝒱₀ (c : Thread nD τ) none Set.univ (m := tM) (Finset.subset_univ _)) $$ Ht; iintro Ht
  iapply (wp_store 𝒱₀ (c : Thread nD τ) none Set.univ (m := tM) (r := tR) (Mk := Finset.univ) (Finset.subset_univ _)) $$ Ht; iintro Ht
  rw [store_t]
  ihave Ht := (show (((tM : Memref sig .tc .vmem S1x512 .f32).access tR).loc (c : Thread nD τ)
      ↦{fullShare} k0_pay4 (k0_pay2 (xin m c)) (FloatOps.ofBits FTy.f32 0x3F800000#32) : sProp 𝕄) ⊢ totPts c fullShare (totalOf (xin m c)) from
    Entails.of_eq (totPts_eq c fullShare (totalOf (xin m c))).symm) $$ Ht
  ihave Ht := (tot_cut c _) $$ Ht
  icases Ht with ⟨Ht0, Ht1, Ht2⟩
  -- the barrier
  ihave HB := (show iprop(atPos EX (barCell c) 0 ∅ 0 ∗ cred (tallyAt (barCell c) () (3 - c.val))) ⊢ barSt (F := F) c (c.val < 0) from by
    unfold barSt; rw [if_neg (Nat.not_lt_zero _)]) $$ [HaB HcB]
  · isplitl [HaB] <;> iassumption
  iapply (step_bar m K c 0 (eq_ne_iff c 0) _ rfl 0 1 rfl rfl) $$ [HO HB]
  · isplitr; · iexact HR
    isplitr; · iexact Hlev
    isplitl [HO] <;> iassumption
  iintro ⟨HO, HB⟩
  iapply (step_bar m K c 1 (eq_ne_iff c 1) _ rfl 1 2 rfl rfl) $$ [HO HB]
  · isplitr; · iexact HR
    isplitr; · iexact Hlev
    isplitl [HO] <;> iassumption
  iintro ⟨HO, HB⟩
  iapply (step_bar m K c 2 (eq_ne_iff c 2) _ rfl 2 3 rfl rfl) $$ [HO HB]
  · isplitr; · iexact HR
    isplitr; · iexact Hlev
    isplitl [HO] <;> iassumption
  iintro ⟨HO, HB⟩
  imod (bar_end m K c) $$ [HB] with ⟨HzB, Hu⟩
  · isplitr; · iexact HR
    iexact HB
  ihave Hu := (Entails.of_eq (all3 _)) $$ Hu
  icases Hu with ⟨Hu0, Hu1, Hu2⟩
  -- the transfers
  unfold O₁
  iapply (step_send m K c 0 (cond7_iff c) _ (dev4_eq c) _ slot1_eq _ _ send1_eq recv1_eq (0 + oSend c 2 + oSend c 1) rfl) $$ [HO HtS0 HtR0 Ht0 Hu0]
  · isplitr; · iexact HR
    isplitl [HO]; · iexact HO
    isplitl [HtS0]; · iexact HtS0
    isplitl [HtR0]; · iexact HtR0
    isplitl [Ht0] <;> iassumption
  iintro ⟨HO, Ht0⟩
  iapply (step_send m K c 1 (cond8_iff c) _ (dev5_eq c) _ slot2_eq _ _ send2_eq recv2_eq (0 + oSend c 2) rfl) $$ [HO HtS1 HtR1 Ht1 Hu1]
  · isplitr; · iexact HR
    isplitl [HO]; · iexact HO
    isplitl [HtS1]; · iexact HtS1
    isplitl [HtR1]; · iexact HtR1
    isplitl [Ht1] <;> iassumption
  iintro ⟨HO, Ht1⟩
  iapply (step_send m K c 2 (cond9_iff c) _ (dev6_eq c) _ slot3_eq _ _ send3_eq recv3_eq 0 rfl) $$ [HO HtS2 HtR2 Ht2 Hu2]
  · isplitr; · iexact HR
    isplitl [HO]; · iexact HO
    isplitl [HtS2]; · iexact HtS2
    isplitl [HtR2]; · iexact HtR2
    isplitl [Ht2] <;> iassumption
  iintro ⟨HO, Ht2⟩
  -- the arrivals
  iapply (step_arrive m K c 0 (sge_ne_iff c 0) _ slot1_eq _ recv1_eq) $$ [HO HaR0 HcR0 Hk0]
  · isplitr; · iexact HR
    isplitl [HO]; · iexact HO
    isplitl [HaR0]; · iexact HaR0
    isplitl [HcR0] <;> iassumption
  iintro ⟨HO, HzR0, Hs0⟩
  iapply (step_arrive m K c 1 (sge_ne_iff c 1) _ slot2_eq _ recv2_eq) $$ [HO HaR1 HcR1 Hk1]
  · isplitr; · iexact HR
    isplitl [HO]; · iexact HO
    isplitl [HaR1]; · iexact HaR1
    isplitl [HcR1] <;> iassumption
  iintro ⟨HO, HzR1, Hs1⟩
  iapply (step_arrive m K c 2 (sge_ne_iff c 2) _ slot3_eq _ recv3_eq) $$ [HO HaR2 HcR2 Hk2]
  · isplitr; · iexact HR
    isplitl [HO]; · iexact HO
    isplitl [HaR2]; · iexact HaR2
    isplitl [HcR2] <;> iassumption
  iintro ⟨HO, HzR2, Hs2⟩
  -- the slots read and the result stored
  iapply (step_look m c 0) $$ Hs0; iintro %v0 %h0 Hs0
  iapply (step_look m c 1) $$ Hs1; iintro %v1 %h1 Hs1
  iapply (step_look m c 2) $$ Hs2; iintro %v2 %h2 Hs2
  iapply (wp_load 𝒱₀ (c : Thread nD τ) none Set.univ (m := oM) (Finset.subset_univ _)) $$ Hout; iintro Hout
  iapply (wp_store 𝒱₀ (c : Thread nD τ) none Set.univ (m := oM) (r := xR) (Mk := Finset.univ) (Finset.subset_univ _)) $$ Hout; iintro Hout
  rw [store_o]
  have hst := stored_eq m c v0 v1 v2 h0 h1 h2
  -- the departures
  iapply (step_left m K c 0 (slt_ne_iff c 0) _ slot1_eq _ send1_eq) $$ [HO HaS0 Ht0]
  · isplitr; · iexact HR
    isplitl [HO]; · iexact HO
    isplitl [HaS0] <;> iassumption
  iintro ⟨HO, HzS0, Ht0⟩
  iapply (step_left m K c 1 (slt_ne_iff c 1) _ slot2_eq _ send2_eq) $$ [HO HaS1 Ht1]
  · isplitr; · iexact HR
    isplitl [HO]; · iexact HO
    isplitl [HaS1] <;> iassumption
  iintro ⟨HO, HzS1, Ht1⟩
  iapply (step_left m K c 2 (slt_ne_iff c 2) _ slot3_eq _ send3_eq) $$ [HO HaS2 Ht2]
  · isplitr; · iexact HR
    isplitl [HO]; · iexact HO
    isplitl [HaS2] <;> iassumption
  iintro ⟨HO, HzS2, Ht2⟩
  iapply (runs_end c fun _ => bodyPost m c)
  unfold bodyPost Φ₁ owing totAny Dat.owesAt Pipeline.owesWithin
  rw [allCells c fun g => semVal g 0, show (dats m 0 c).owed t0_0.succ = 0 from rfl]
  icases HO with ⟨%W', HO⟩
  isplitl [HzB HzS0 HzS1 HzS2 HzR0 HzR1 HzR2 Hidle Ht0 Ht1 Ht2 Hs0 Hs1 Hs2 Hspare]
  · isplitl [HzB HzS0 HzS1 HzS2 HzR0 HzR1 HzR2]
    · isplitl [HzB]; · iexact HzB
      isplitl [HzS0]; · iexact HzS0
      isplitl [HzS1]; · iexact HzS1
      isplitl [HzS2]; · iexact HzS2
      isplitl [HzR0]; · iexact HzR0
      isplitl [HzR1] <;> iassumption
    isplitl [Hidle]; · iexact Hidle
    isplitl [Ht0 Ht1 Ht2]
    · iexists (totalOf (xin m c))
      iapply (tot_whole c (totalOf (xin m c)))
      isplitl [Ht0]; · iexact Ht0
      isplitl [Ht1] <;> iassumption
    iapply (landing_whole c)
    isplitl [Hs0 Hs1 Hs2]
    · rw [all3]
      isplitl [Hs0]; · iapply (arrived_any m c 0); iexact Hs0
      isplitl [Hs1]; · iapply (arrived_any m c 1); iexact Hs1
      iapply (arrived_any m c 2); iexact Hs2
    iexact Hspare
  isplitl [HO]
  · iexists W'; isplitr; · ipureintro; exact fun _ _ => Or.inl trivial
    iexact HO
  isplitl [Hx]
  · iexists _; isplitr; · (ipureintro; rfl)
    iexact Hx
  iexists _
  isplitr; · (ipureintro; exact hst)
  iexact Hout

end Run

set_option maxRecDepth 4000 in
/-- What the launch asks of the body. -/
theorem body_obligation (c : Dev nD) : BodyObligation (dats m 0 c) (defs₀ (F := F)) 𝒱₀ () Set.univ := fun t => by
  rw [fin_N0 t]
  rw [bigSep_W0, bigSep_W0]
  simp only [owns_holds]
  exact body_runs m c

end Cert.RunProd

end
-- ==== Proof.Launch.lean ====
/-
The launch: the records of the exchange made for the whole mesh, every device dealt its part, and the run of the program
on the four devices put together from the runs of the body.
-/
module

public import proofs.«01_k».proof.Proof.Body
public import Idealize.ShloMosaic.Lib.Pipeline.CollectiveSegs

@[expose] public section

noncomputable section

namespace Cert.RunProd

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores -/

/-- The kernel's own semaphores: the two scratch arrays. -/
abbrev osem : Fin 8 → SemLoc sig := fun
  | 0 => .dma (sendS 0) | 1 => .dma (sendS 1) | 2 => .dma (sendS 2)
  | 3 => .dma (recvS 0) | 4 => .dma (recvS 1) | 5 => .dma (recvS 2)
  | 6 => .dma (idleS 0) | 7 => .dma (idleS 1)

theorem osem_facts : Pipeline.OwnSemFacts cfg0.spec osem := by decide

/-- Every counter of the exchange and every unused semaphore of a device at zero. -/
def zeros (c : Dev nD) : sProp 𝕄 := iprop((bigSep Finset.univ fun j : Ch => semVal (cell c j) 0) ∗ idle c)

theorem own_list (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0
        ∗ semVal (recvCell c 2) 0 ∗ semVal ((c : Thread nD τ), .dma (idleS 0)) 0 ∗ semVal ((c : Thread nD τ), .dma (idleS 1)) 0) := by
  rw [Pipeline.ownSems0_eq_of_list c osem [0, 1, 2, 3, 4, 5, 6, 7] (by decide) (by decide)]; rfl

theorem bar_list (c : Dev nD) : (unscopedSems0 c : sProp 𝕄) = semVal (barCell c) 0 := by
  unfold unscopedSems0; rw [bigSep_eq_bigSepL_of_eq [SemLoc.reg barS] (by decide) (by decide)]; rfl

theorem zeros_intro (c : Dev nD) :
    iprop(Pipeline.ownSems0 (Ix := Unit) (Name := ℕ) (U := UU) (Lvl := ℕ) (Val := Elt F) (τ := τ) osem c ∗ unscopedSems0 c) ⊢ zeros (F := F) c := by
  unfold zeros idle
  rw [own_list, bar_list, allCells c fun g => semVal g 0]
  iintro ⟨⟨H0, H1, H2, H3, H4, H5, H6, H7⟩, HB⟩
  isplitl [HB H0 H1 H2 H3 H4 H5]
  · isplitl [HB]; · iexact HB
    isplitl [H0]; · iexact H0
    isplitl [H1]; · iexact H1
    isplitl [H2]; · iexact H2
    isplitl [H3]; · iexact H3
    isplitl [H4] <;> iassumption
  · isplitl [H6] <;> iassumption

theorem zeros_elim (c : Dev nD) :
    zeros (F := F) c ⊢ iprop(unscopedSems0 c ∗ Pipeline.ownSems0 (Ix := Unit) (Name := ℕ) (U := UU) (Lvl := ℕ) (Val := Elt F) (τ := τ) osem c) := by
  unfold zeros idle
  rw [own_list, bar_list, allCells c fun g => semVal g 0]
  iintro ⟨⟨HB, H0, H1, H2, H3, H4, H5⟩, H6, H7⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## The records made -/

theorem cell_inj : Function.Injective fun p : Dev nD × Ch => cell p.1 p.2 := by
  rintro ⟨c, j⟩ ⟨c', j'⟩ h
  have h1 : c = c' := congrArg (fun g : GSem nD τ sig => g.1.1) h
  have h2 : j = j' := chSem_inj (congrArg Prod.snd h)
  rw [h1, h2]
/-- The counters of all devices. -/
def allCounters : Finset (GSem nD τ sig) := Finset.univ.map ⟨_, cell_inj⟩

/-- A payment: on a device, of one kind, over some number of steps. -/
abbrev Pay : Type := Dev nD × (Fin 3 × Fin 3)
/-- The counter of a device that is paid by a payment of kind `i`: its barrier, its departures, its arrivals. -/
def paidOn (c : Dev nD) (k i : Fin 3) : GSem nD τ sig :=
  cell c (match i with | 0 => .inl () | 1 => .inr (.inl k) | 2 => .inr (.inr k))
def tokenOf (p : Pay) : GSem nD τ sig × ℕ × Fin 3 := (paidOn p.1 p.2.1 p.2.2, 0, p.2.1)
theorem token_inj : Function.Injective tokenOf := by
  rintro ⟨c, k, i⟩ ⟨c', k', i'⟩ h
  have hk : k = k' := congrArg (fun x : GSem nD τ sig × ℕ × Fin 3 => x.2.2) h
  have hg : paidOn c k i = paidOn c' k' i' := congrArg Prod.fst h
  subst hk
  have hp := cell_inj (a₁ := (c, _)) (a₂ := (c', _)) hg
  have hc : c = c' := congrArg Prod.fst hp
  have hj := congrArg Prod.snd hp
  have hi : i = i' := by
    revert hj
    fin_cases i <;> fin_cases i' <;> first | exact fun _ => rfl | exact fun h => by cases h
  rw [hc, hi]
def allTokens : Finset (GSem nD τ sig × ℕ × Fin 3) := Finset.univ.map ⟨tokenOf, token_inj⟩

/-- The launch's own ghost state and the exchange's. -/
def u₀ : UU := (initOf (Pipeline.cells cfgs cellOf_inj) (Pipeline.launchToks cfgs cellOf_inj), initOf allCounters allTokens)

/-- The rights to the payments on device `c`'s own counters. -/
def ownTok (c : Dev nD) (k : Fin 3) : sProp 𝕄 :=
  iprop(dutyTok EX (barCell c) 0 k ∗ dutyTok EX (sendCell c k) 0 k ∗ dutyTok EX (recvCell c k) 0 k)

/-- What the launch first deals device `c`. -/
def dealt (c : Dev nD) : sProp 𝕄 :=
  iprop((bigSep Finset.univ fun j : Ch => roundState EX (sched m) (cell c j) 0)
    ∗ (bigSep Finset.univ fun j : Ch => atPos EX (cell c j) 0 ∅ 0) ∗ (bigSep Finset.univ fun j : Ch => reached EX (cell c j) 0)
    ∗ bigSep Finset.univ fun k => ownTok (F := F) c k)

/-- What device `c` has once the records stand. -/
def ready (c : Dev nD) : sProp 𝕄 := iprop(∃ K, records m K ∗ share c)

theorem deal : BI.own (EX (F := F) (initOf allCounters allTokens)) ⊢ (|==> bigSep Finset.univ (dealt m) : sProp 𝕄) := by
  have hX (Φ : GSem nD τ sig → sProp 𝕄) : bigSep allCounters Φ = bigSep Finset.univ fun c : Dev nD => bigSep Finset.univ fun j : Ch => Φ (cell c j) := by
    unfold allCounters; rw [bigSep_map, bigSep_univ_prod]; rfl
  have hT : bigSep allTokens (fun x => (dutyTok EX x.1 x.2.1 x.2.2 : sProp 𝕄)) = bigSep Finset.univ fun c : Dev nD => bigSep Finset.univ fun k => ownTok c k := by
    unfold allTokens; rw [bigSep_map, bigSep_univ_prod]
    refine bigSep_congr fun c _ => ?_
    rw [bigSep_univ_prod]
    exact bigSep_congr fun k _ => by unfold ownTok; rw [all3]; rfl
  iintro HX
  imod (Rounds.fund EX (sched m) allCounters allTokens) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold dealt; simp only [bigSep_sep']
  isplitl [Hst']; · iexact Hst'
  isplitl [Hat']; · iexact Hat'
  isplitl [Hr'] <;> iassumption

/-- A device's counters put under invariants. -/
theorem device_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun j => iprop(∃ κ : ℕ, cellInv EX (sched m) κ (cell c j)))
          ∗ (bigSep Finset.univ fun j : Ch => reached EX (cell c j) 0)
          ∗ (bigSep Finset.univ fun j : Ch => atPos EX (cell c j) 0 ∅ 0) ∗ (bigSep Finset.univ fun k => ownTok c k) ∗ idle c) := by
  unfold dealt
  iintro ⟨Hos, Hus, Hst, Hat, Hre, Htok⟩
  ihave Hv := (zeros_intro (F := F) c) $$ [Hos Hus]
  · isplitl [Hos] <;> iassumption
  unfold zeros
  icases Hv with ⟨Hv, Hidle⟩
  imod (show iprop((bigSep Finset.univ fun j : Ch => semVal (cell c j) 0) ∗ bigSep Finset.univ fun j : Ch => roundState EX (sched m) (cell c j) 0)
      ⊢ (|={Set.univ}=> bigSep Finset.univ fun j => iprop(∃ κ : ℕ, cellInv EX (sched m) κ (cell c j)) : sProp 𝕄) from by
        rw [← bigSep_sep']
        exact (bigSep_mono fun j _ => (Rounds.body_intro EX (sched m) (cell c j)).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  isplitl [Htok] <;> iassumption

/-- The rights handed from the device they are on to the device that pays: over `k + 1` steps each family is turned. -/
theorem tokens_turn : (bigSep Finset.univ fun c : Dev nD => bigSep Finset.univ fun k => ownTok (F := F) c k)
    ⊢ bigSep Finset.univ fun c : Dev nD => bigSep Finset.univ fun k => payTok (F := F) c k := by
  simp only [all3]
  simp only [bigSep_sep']
  have turned (k : Fin 3) : (bigSep Finset.univ fun c : Dev nD => ownTok (F := F) c k) ⊢ bigSep Finset.univ fun c : Dev nD => payTok (F := F) c k := by
    unfold ownTok payTok
    rw [bigSep_sep', bigSep_sep', bigSep_sep', bigSep_sep',
      bigSep_univ_equiv (turn k).symm (fun c : Dev nD => (dutyTok EX (barCell c) 0 k : sProp 𝕄)),
      bigSep_univ_equiv (turn k) (fun c : Dev nD => (dutyTok EX (recvCell c k) 0 k : sProp 𝕄))]
    exact BI.Entails.refl _
  iintro ⟨H0, H1, H2⟩
  isplitl [H0]; · iapply (turned 0); iexact H0
  isplitl [H1]; · iapply (turned 1); iexact H1
  iapply (turned 2); iexact H2

/-- What everyone may keep, each device gets. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices gathered into the records, which every device keeps. -/
theorem gather :
    (bigSep Finset.univ fun c : Dev nD => iprop((bigSep Finset.univ fun j => iprop(∃ κ : ℕ, cellInv EX (sched m) κ (cell c j)))
          ∗ (bigSep Finset.univ fun j : Ch => reached EX (cell c j) 0)
          ∗ (bigSep Finset.univ fun j : Ch => atPos EX (cell c j) 0 ∅ 0) ∗ (bigSep Finset.univ fun k => ownTok (F := F) c k) ∗ idle c) : sProp 𝕄)
      ⊢ bigSep Finset.univ (ready m) := by
  rw [bigSep_sep', bigSep_sep', bigSep_sep', bigSep_sep', ← bigSep_univ_prod (fun p : Dev nD × Ch => iprop(∃ κ : ℕ, cellInv EX (sched m) κ (cell p.1 p.2))),
    ← bigSep_univ_prod (fun p : Dev nD × Ch => (reached EX (cell p.1 p.2) 0 : sProp 𝕄))]
  iintro ⟨HI, #HR, Hat, Htok, Hidle⟩
  ihave HK := (BI.bigSep_exists_pi Finset.univ (fun (p : Dev nD × Ch) (κ : ℕ) => (cellInv EX (sched m) κ (cell p.1 p.2) : sProp 𝕄))) $$ HI
  icases HK with ⟨%K, #HI⟩
  ihave Htk := (tokens_turn (F := F)) $$ Htok
  iapply (spread (R := records m K) (Φ := fun c => share c) fun c _ => (show iprop(records m K ∗ share c) ⊢ ready m c from by
    unfold ready; iintro H; iexists K; iexact H))
  isplitr
  · unfold records; rw [bigSep_sep']
    isplitl; · iexact HI
    iexact HR
  · unfold share; rw [bigSep_sep', bigSep_sep']
    isplitl [Hat]; · iexact Hat
    isplitl [Htk] <;> iassumption

/-- All devices' semaphores and dealings at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => device_alloc m c).trans (bigSep_fupd _ _)).trans (BI.fupd_mono (gather m))

/-! ## The launch's side conditions -/

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  iintro ⟨-, Hlev, Hcr, -, HG⟩
  ihave Hc := (credits (F := F) c) $$ Hcr
  imodintro
  unfold start ready
  isplitl
  · isplitl [HG]; · iexact HG
    isplitl [Hc] <;> iassumption
  · iempintro

theorem point_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ totAny landing
  iintro ⟨Hs, -, ⟨%f, Hf⟩, Hr⟩
  isplitl [Hs]; · iexact Hs
  isplitl [Hf]
  · iexists f; rw [totPts_eq]; iexact Hf
  · iexact Hr

theorem point_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ totAny landing
  iintro ⟨Hz, Hi, ⟨%f, Hf⟩, Hr⟩
  ihave Hz := (zeros_elim (F := F) c) $$ [Hz Hi]
  · unfold zeros; isplitl [Hz] <;> iassumption
  icases Hz with ⟨Hu, Ho⟩
  isplitl [Hu]; · iexact Hu
  isplitl [Ho]; · iexact Ho
  isplitl [Hf]
  · iexists f; rw [← totPts_eq]; iexact Hf
  · iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run leaves in the arrays of the windows. -/
def Left : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- From any memory with all counters at zero the program ends on the four devices, with the arrays as the points leave
    them and all counters at zero again. -/
theorem run_left : θ_run defs (onTc (τ := τ) (main (F := F))) ⟨m, fun _ => 0, ρ⟩ (fun r => Left m r ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := point_intro m) (hout := point_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RunProd

end
-- ==== Proof.Final.lean ====
/-
What the run leaves on every device: the result array as the body computed it, the argument as it was, and every
counter at zero.
-/
module

public import proofs.«01_k».proof.Proof.Launch
public import proofs.«01_k».proof.Proof.Gen.KernelIdeal.Points
public import Idealize.ShloMosaic.Lib.Pipeline.Value

@[expose] public section

noncomputable section

namespace Cert.RunProd

open Cert.KernelIdeal Cert.KernelIdeal.Gen
open Idealize.ShloMosaic
open Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The argument's window is never written. -/
theorem arg_kept (c : Dev nD) : (dats m 0 c).arrAt (0 : Fin 2) cfg0.N = m ((c : Thread nD τ).loc main_arg0) :=
  (dats m 0 c).arrAt_in (0 : Fin 2) rfl _

/-- The argument's one block is the whole array. -/
theorem emb_arg (t : Fin cfg0.N) (i : S1024x512.Idx) : (win0_0.blk t).view.emb i = i :=
  funext fun a => Fin.ext (by
    show 0 * _ + 1 * (i a).val = (i a).val
    omega)

/-- The result's one block is the whole array. -/
theorem emb_result (t : Fin cfg0.N) (i : S1024x512.Idx) : (win0_1.blk t).view.emb i = i :=
  funext fun a => Fin.ext (by
    show 0 * _ + 1 * (i a).val = (i a).val
    omega)

/-- A device reads its whole argument. -/
theorem xin_eq (c : Dev nD) : xin m c = m ((c : Thread nD τ).loc main_arg0) :=
  funext fun i => congrArg (m ((c : Thread nD τ).loc main_arg0)) (emb_arg t0_0 i)

/-- So the array ends as the body left the block. -/
theorem result_left (c : Dev nD) : (dats m 0 c).arrAt (1 : Fin 2) cfg0.N = outAt m c := by
  refine (dats m 0 c).arrAt_eq_of_cover (1 : Fin 2) (outAt m c) (fun t _ => ?_) fun i => ⟨t0_0, flush0_1 t0_0, ?_⟩
  · exact funext fun i => (congrArg (outAt m c) (emb_result t i)).symm
  · exact (emb_result t0_0 i) ▸ (win0_1.blk t0_0).view.emb_mem_set i

/-- The program's run, on the four devices: the results, the arguments unchanged, the counters at zero. -/
theorem run_main : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0))
    ∧ r.2.sem = fun _ => 0) :=
  (θ_run defs _ _).mono (fun r h => ⟨fun c => ⟨(h.1 c (1 : Fin 2)).trans (result_left m c), (h.1 c (0 : Fin 2)).trans (arg_kept m c)⟩, h.2⟩)
    (run_left m ρ)

end Cert.RunProd

end
-- ==== Proof.Frames.lean ====
/-
The frames of the two kernel programs. They have the same text, so the run that is proved for any meaning of the floats
serves both.
-/
module

public import proofs.«01_k».proof.Defs
public import proofs.«01_k».proof.Proof.Final
public import proofs.«01_k».proof.Proof.Gen.Kernel

@[expose] public section

noncomputable section

namespace Cert.RunProd

open Idealize.ShloMosaic Idealize.SL Idealize.SL.Sem

/-- The two programs' kernels have the same body. -/
theorem same_kernels : Kernel.defs₀ (F := Bits) = KernelIdeal.defs₀ (F := Bits) := by
  unfold Kernel.defs₀ KernelIdeal.defs₀
  refine congrArg (Defs.onTc (τ := KernelIdeal.τ) (sig := KernelIdeal.sig) (Λ := KernelIdeal.Λ₀)) ?_
  funext l p
  match l, p with
  | 0, (t, s) => rfl

/-- The two programs have the same body table. -/
theorem same_defs : Kernel.defs (F := Bits) = KernelIdeal.defs (F := Bits) :=
  congrArg (Pipeline.defs KernelIdeal.pcfgs) same_kernels

/-- The kernel ends on the four devices, its argument unchanged and every counter at zero. -/
theorem frame_kernel : Cert.quiescent_Kernel := fun m ρ _ => by
  rw [same_defs]
  exact (θ_run KernelIdeal.defs (onTc KernelIdeal.main) _).mono (fun _ h => ⟨fun c => (h.1 c).2, h.2⟩) (run_main (F := Bits) m ρ)

/-- So does the kernel read over the extended reals. -/
theorem frame_kernelIdeal : Cert.quiescent_KernelIdeal := fun m ρ _ =>
  (θ_run KernelIdeal.defs _ _).mono (fun _ h => ⟨fun c => (h.1 c).2, h.2⟩) (run_main (F := Ideal) m ρ)

end Cert.RunProd

end
-- ==== Proof.Scan.lean ====
/-
The mathematics of one block over the extended reals: a stage multiplies every row by the row `k` above it, or by one
where there is none. Stages of one, two, four, … rows make of every row the product of a window of rows above it that
doubles with each stage, and in the end of all of them; the total is the product of the whole block.
-/
module

public import proofs.«01_k».proof.Proof.Buffers
public import Idealize.ShloMosaic.Lib.Pipeline.Value
public import Idealize.ShloMosaic.Lib.IdealHost
public import Idealize.ShloMosaic.Lib.ValueIdx

@[expose] public section

noncomputable section

namespace Cert.RunProd

open Cert.KernelIdeal Cert.KernelIdeal.Gen
open Idealize.ShloMosaic

/-! ## Windows of rows -/

/-- Column `j` of an array of `n` rows, as a sequence that goes on with ones. -/
def col {n : ℕ} (x : (⟨2, ![n, 512]⟩ : Shape).Idx → EReal) (j : Fin 512) (t : ℕ) : EReal :=
  if h : t < n then x (Shape.pair (d := ![n, 512]) ⟨t, h⟩ j) else 1

theorem col_at {n : ℕ} (x : (⟨2, ![n, 512]⟩ : Shape).Idx → EReal) (i : (⟨2, ![n, 512]⟩ : Shape).Idx) : col x (i 1) (i 0).val = x i := by
  unfold col
  rw [dif_pos (show (i 0).val < n from (i 0).isLt)]
  exact congrArg x (Shape.pair_eta (d := ![n, 512]) i)

/-- The product of the last `k` terms up to term `i`, of all when there are fewer. -/
def window (f : ℕ → EReal) (k i : ℕ) : EReal := ∏ t ∈ Finset.Ico (i + 1 - k) (i + 1), f t

theorem window_one (f : ℕ → EReal) (i : ℕ) : window f 1 i = f i := by
  unfold window; rw [Nat.add_sub_cancel, Nat.Ico_succ_singleton, Finset.prod_singleton]

/-- A window as long as the sequence so far takes all of it. -/
theorem window_all (f : ℕ → EReal) {k i : ℕ} (h : i < k) : window f k i = ∏ t ∈ Finset.range (i + 1), f t := by
  unfold window; rw [Nat.sub_eq_zero_of_le h, Finset.range_eq_Ico]

/-- A window and the one before it make the window twice as long. -/
theorem window_double (f : ℕ → EReal) (k i : ℕ) : window f k i * (if k ≤ i then window f k (i - k) else 1) = window f (2 * k) i := by
  unfold window
  by_cases h : k ≤ i
  · rw [if_pos h, mul_comm, show i - k + 1 = i + 1 - k by omega, show i + 1 - k - k = i + 1 - 2 * k by omega]
    exact Finset.prod_Ico_consecutive f (by omega) (by omega)
  · rw [if_neg h, mul_one, show i + 1 - k = 0 by omega, show i + 1 - 2 * k = 0 by omega]

/-! ## Stages -/

/-- Every row of `v` is the product of a window of `k` rows of `x`. -/
def Scanned (x : FVec Ideal S1024x512 .f32) (k : ℕ) (v : FVec Ideal S1024x512 .f32) : Prop :=
  ∀ i : S1024x512.Idx, v i = window (col x (i 1)) k (i 0).val

theorem scanned_self (x : FVec Ideal S1024x512 .f32) : Scanned x 1 x := fun i => by
  rw [window_one]; exact (col_at x i).symm

/-- A stage at distance `k` doubles the windows. -/
theorem scanned_stage {x v : FVec Ideal S1024x512 .f32} (k n : ℕ) (h : Scanned x k v) (one : Ideal .f32) (hone : one = 1)
    (hs : S1024x512.Slices ![0, 0] (⟨2, ![n, 512]⟩ : Shape))
    (hc : Shape.Concatenates [(⟨2, ![k, 512]⟩ : Shape), (⟨2, ![n, 512]⟩ : Shape)] S1024x512 0) :
    Scanned x (2 * k) (mulf v (concatenate S1024x512 0
      [⟨⟨2, ![k, 512]⟩, broadcast (⟨2, ![k, 512]⟩ : Shape) one⟩, ⟨⟨2, ![n, 512]⟩, extractStridedSlice (⟨2, ![n, 512]⟩ : Shape) ![0, 0] v hs⟩] hc)) := by
  have hkn : k + n = 1024 := by
    have := hc.2.2
    simpa using this
  intro i
  rw [ValueIdx.mulf_apply, h i, ← window_double]
  congr 1
  have hi : (i 0).val < 1024 := (i 0).isLt
  by_cases hk : k ≤ (i 0).val
  · rw [if_pos hk]
    rw [concatenate_pair_apply_right (t := S1024x512) (s₁ := ⟨2, ![k, 512]⟩) (s₂ := ⟨2, ![n, 512]⟩) (0 : Fin 2) _ _ hc i rfl rfl (Shape.pair (d := ![n, 512]) ⟨(i 0).val - k, by show _ < n; omega⟩ (i 1))
      (fun b hb => by
        rcases b with ⟨_ | _ | b, hb'⟩
        · exact absurd rfl hb
        · rfl
        · exact absurd hb' (by show ¬ b + 1 + 1 < 2; omega))
      (by show (i 0).val - k + k = (i 0).val; omega)]
    rw [extractStridedSlice_apply (![0, 0] : Fin 2 → ℕ) v hs _ (Shape.pair (d := ![1024, 512]) ⟨(i 0).val - k, by show _ < 1024; omega⟩ (i 1))
      (fun a => by
        rcases a with ⟨_ | _ | a, ha⟩
        · exact (Nat.zero_add _).symm
        · exact (Nat.zero_add _).symm
        · exact absurd ha (by show ¬ a + 1 + 1 < 2; omega))]
    exact h _
  · rw [if_neg hk]
    rw [concatenate_pair_apply_left (t := S1024x512) (s₁ := ⟨2, ![k, 512]⟩) (s₂ := ⟨2, ![n, 512]⟩) (0 : Fin 2) _ _ hc i rfl (Shape.pair (d := ![k, 512]) ⟨(i 0).val, by show _ < k; omega⟩ (i 1))
      (fun b => by
        rcases b with ⟨_ | _ | b, hb⟩
        · rfl
        · rfl
        · exact absurd hb (by show ¬ b + 1 + 1 < 2; omega))]
    exact hone

/-- The pattern the kernel writes for one is the number one. -/
theorem one_eq : (one32 : Ideal .f32) = 1 := Ideal.ofBits_one_f32

/-- The six stages at one to thirty-two rows. -/
theorem scanned_64 (x : FVec Ideal S1024x512 .f32) : Scanned x 64 (k0_pay2 x) := by
  unfold k0_pay2
  rw [shapeCast_self]
  exact scanned_stage 32 992 (scanned_stage 16 1008 (scanned_stage 8 1016 (scanned_stage 4 1020 (scanned_stage 2 1022
    (scanned_stage 1 1023 (scanned_self x) _ one_eq _ _) _ one_eq _ _) _ one_eq _ _) _ one_eq _ _) _ one_eq _ _) _ one_eq _ _

/-- Then the two at sixty-four and a hundred and twenty-eight. -/
theorem scanned_256 (x : FVec Ideal S1024x512 .f32) : Scanned x 256 (k0_pay3 (k0_pay2 x) one32) :=
  scanned_stage 128 896 (scanned_stage 64 960 (scanned_64 x) _ one_eq _ _) _ one_eq _ _

/-- Then the last two: every row is the product of all rows up to it. -/
theorem scanned_all (x : FVec Ideal S1024x512 .f32) : Scanned x 1024 (k0_pay5 (k0_pay3 (k0_pay2 x) one32)) :=
  scanned_stage 512 512 (scanned_stage 256 768 (scanned_256 x) _ one_eq _ _) _ one_eq _ _

theorem scan_eq (x : FVec Ideal S1024x512 .f32) (i : S1024x512.Idx) :
    k0_pay5 (F := Ideal) (k0_pay3 (k0_pay2 x) one32) i = ∏ t ∈ Finset.range ((i 0).val + 1), col x (i 1) t := by
  rw [scanned_all x i, window_all _ (show (i 0).val < 1024 from (i 0).isLt)]

/-! ## The total -/

/-- Row `r` of the scan at 256, cut out, is the window of 256 rows up to `r`. -/
theorem row_cut (x : FVec Ideal S1024x512 .f32) (r : ℕ) (hr : r < 1024) (hs : S1024x512.Slices ![r, 0] S1x512) (i : S1x512.Idx) :
    extractStridedSlice S1x512 ![r, 0] (k0_pay3 (F := Ideal) (k0_pay2 x) one32) hs i = window (col x (i 1)) 256 r := by
  rw [extractStridedSlice_apply (![r, 0] : Fin 2 → ℕ) _ hs i (Shape.pair (d := ![1024, 512]) ⟨r, hr⟩ (i 1))
    (fun a => by
      rcases a with ⟨_ | _ | a, ha⟩
      · have : (i 0).val < 1 := (i 0).isLt
        show r = r + (i 0).val
        omega
      · exact (Nat.zero_add _).symm
      · exact absurd ha (by show ¬ a + 1 + 1 < 2; omega))]
  exact scanned_256 x _

/-- A block's total is the product of all its rows. -/
theorem total_eq (x : FVec Ideal S1024x512 .f32) (i : S1x512.Idx) :
    totalOf (F := Ideal) x i = ∏ t ∈ Finset.range 1024, col x (i 1) t := by
  unfold totalOf k0_pay4
  rw [shapeCast_self]
  simp only [ValueIdx.mulf_apply]
  rw [row_cut x 255 (by decide), row_cut x 511 (by decide), row_cut x 767 (by decide), row_cut x 1023 (by decide)]
  generalize col x (i 1) = f
  unfold window
  rw [Finset.range_eq_Ico, ← mul_assoc, Finset.prod_Ico_consecutive f (by decide) (by decide),
    Finset.prod_Ico_consecutive f (by decide) (by decide), Finset.prod_Ico_consecutive f (by decide) (by decide)]

end Cert.RunProd

end
-- ==== Proof.Reference.lean ====
/-
What the reference computes: a loop over the rows that carries the product so far and writes it down. After `k` trips the
product is that of the first `k` rows, and the first `k` rows of the result are written.
-/
module

public import proofs.«01_k».proof.Defs
public import proofs.«01_k».proof.Proof.Scan
public import proofs.«01_k».proof.Proof.Gen.ReferenceIdeal.Run
public import Idealize.ShloMosaic.Lib.DynamicIndex
public import Idealize.ShloMosaic.Lib.WordCmp
public import Idealize.ShloMosaic.Lib.Pointwise.ShapeOpsCore

@[expose] public section

noncomputable section

namespace Cert.RunProd.Reference

open Cert.ReferenceIdeal Cert.ReferenceIdeal.Gen Cert.ReferenceIdeal.Value
open Idealize.ShloMosaic Idealize.ShloMosaic.TcCoe Idealize.ShloMosaic.Tactic Idealize.SL Idealize.SL.Sem
open Idealize.ShloMosaic.StableHlo

variable (m : (ℓ : Loc nD τ sig) → Buf (Elt Ideal) ℓ)

/-- The argument. -/
def arg : FVec Ideal S4096x512 .f32 := m (((0 : Dev nD).tc : Thread nD τ).loc main_arg0)

/-- Row `r` holds the products of the rows up to it. -/
def running (X : FVec Ideal S4096x512 .f32) : FVec Ideal S4096x512 .f32 := fun i =>
  ∏ t ∈ Finset.range ((i 0).val + 1), col (n := 4096) X (i 1) t

/-- The single column index of a row. -/
abbrev inRow (j : S512.Idx) : Fin 512 := j 0

/-- The index of a flat row at a column. -/
def flatIdx (c : Fin 512) : S512.Idx := fun a => ⟨c.val, by
  obtain rfl : a = (0 : Fin 1) := Subsingleton.elim (α := Fin 1) _ _
  exact c.isLt⟩

/-- What the loop carries before trip `k`: the argument, the trip's number, the product of the rows before, and the
    result with those rows written. -/
structure Carried (X : FVec Ideal S4096x512 .f32) (k : ℕ) (V : Valuation τ sig (Elt Ideal)) : Prop where
  src : V (Proc.devRef .tc main_v2_0) = X
  trip : V (Proc.devRef .tc main_v2_1) = fun _ => BitVec.ofNat 32 k
  prod : V (Proc.devRef .tc main_v2_2) = fun j : S512.Idx => ∏ t ∈ Finset.range k, col (n := 4096) X (inRow j) t
  rows : ∀ i : S4096x512.Idx, (i 0).val < k → (V (Proc.devRef .tc main_v2_3) : FVec Ideal S4096x512 .f32) i = running X i

theorem trip_toInt (k : ℕ) (hk : k < 4096) : (BitVec.ofNat 32 k).toInt = (k : ℤ) := by
  rw [BitVec.toInt_eq_toNat_of_lt (by rw [BitVec.toNat_ofNat]; omega), BitVec.toNat_ofNat, Nat.mod_eq_of_lt (by omega)]

/-- One row at a place inside the array. -/
theorem row_slices (k : ℕ) (hk : k < 4096) : S4096x512.Slices ![k, 0] S1x512 := by
  refine ⟨rfl, fun a => ?_⟩
  rcases a with ⟨_ | _ | a, ha⟩
  · show k + 1 ≤ 4096; omega
  · show 0 + 512 ≤ 512; omega
  · exact absurd ha (by show ¬ a + 1 + 1 < 2; omega)

/-- The places of the trip's row, as integers. -/
theorem starts (V : Valuation τ sig (Elt Ideal)) (k : ℕ) (hk : k < 4096)
    (h : V (Proc.devRef .tc main_v2_1) = fun _ => BitVec.ofNat 32 k) (a : Fin 2) :
    (((![V (Proc.devRef .tc main_v2_1), constantI S_ 32 0#32] : Fin 2 → (⟨S_, .i32⟩ : BufTy).Contents (Elt Ideal))) a (Shape.Idx.first h_S_)).toInt
      = ((![k, 0] : Fin 2 → ℕ) a : ℤ) := by
  rcases a with ⟨_ | _ | a, ha⟩
  · show (V (Proc.devRef .tc main_v2_1) (Shape.Idx.first h_S_)).toInt = (k : ℤ)
    rw [h]; exact trip_toInt k hk
  · rfl
  · exact absurd ha (by omega)

/-- A row laid flat holds the same numbers. -/
theorem flat_row (v : FVec Ideal S1x512 .f32) (j : S512.Idx) :
    shapeCast S512 v shapeCasts_S1x512_S512 j = v (Shape.pair (d := ![1, 512]) (0 : Fin 1) (inRow j)) :=
  shapeCast_apply v shapeCasts_S1x512_S512 j _ (by
    rw [Shape.rowMajor_val_one]
    refine (Shape.rowMajor_pair_val (d := ![1, 512]) (0 : Fin 1) (inRow j)).trans ?_
    show 0 * 512 + (j 0).val = (j 0).val
    omega)

/-- A flat row made a row again. -/
theorem spread_row (v : FVec Ideal S512 .f32) (i : S1x512.Idx) :
    broadcastInDim S1x512 ![1] bcast_S512_S1x512_1 v i = v (flatIdx (i 1)) :=
  broadcastInDim_apply _ bcast_S512_S1x512_1 v i _ (fun a => by
    obtain rfl : a = (0 : Fin 1) := Subsingleton.elim (α := Fin 1) _ _
    rfl)

/-- The product a trip makes: one more row. -/
theorem trip_prod (X : FVec Ideal S4096x512 .f32) (k : ℕ) (hk : k < 4096) (V : Valuation τ sig (Elt Ideal)) (h : Carried X k V) :
    res_main_while0b_v4 V = fun j : S512.Idx => ∏ t ∈ Finset.range (k + 1), col (n := 4096) X (inRow j) t := by
  funext j
  unfold res_main_while0b_v4
  rw [Host.dynamicSlice_eq_extractStridedSlice S1x512 _ _ (![k, 0] : Fin 2 → ℕ) _ (row_slices k hk) (starts V k hk h.trip)]
  refine (ValueIdx.mulf_apply _ _ _).trans ?_
  rw [h.prod, h.src, Finset.prod_range_succ]
  congr 1
  rw [flat_row]
  rw [extractStridedSlice_apply (![k, 0] : Fin 2 → ℕ) X (row_slices k hk) _ (Shape.pair (d := ![4096, 512]) ⟨k, hk⟩ (inRow j))
    (fun a => by
      rcases a with ⟨_ | _ | a, ha⟩
      · rfl
      · exact (Nat.zero_add _).symm
      · exact absurd ha (by show ¬ a + 1 + 1 < 2; omega))]
  exact (col_at (n := 4096) X (Shape.pair (d := ![4096, 512]) ⟨k, hk⟩ (inRow j))).symm

/-- A trip carries on. -/
theorem carried_step (X : FVec Ideal S4096x512 .f32) (k : ℕ) (hk : k < 4096) (V : Valuation τ sig (Elt Ideal)) (h : Carried X k V) :
    Carried X (k + 1) (STEP V) where
  src := (STEP_main_v2_0 V).trans h.src
  trip := by
    rw [STEP_main_v2_1]; unfold step_main_v2_1
    rw [h.trip]
    funext i
    show BitVec.ofNat 32 k + 1#32 = BitVec.ofNat 32 (k + 1)
    rw [BitVec.ofNat_add]
  prod := by
    rw [STEP_main_v2_2]; unfold step_main_v2_2
    exact trip_prod X k hk V h
  rows := by
    intro i hi
    rw [STEP_main_v2_3]; unfold step_main_v2_3
    rw [trip_prod X k hk V h, WordCmp.dynamicUpdateSlice_eq_update _ _ _ _ (![k, 0] : Fin 2 → ℕ) (row_slices k hk) (starts V k hk h.trip)]
    refine (updateSlice_apply _ _ _ _ i).trans ?_
    by_cases hrow : (i 0).val = k
    · rw [dif_pos (fun a => by
        rcases a with ⟨_ | _ | a, ha⟩
        · show k ≤ (i 0).val ∧ (i 0).val < k + 1; omega
        · have : (i 1).val < 512 := (i 1).isLt
          show 0 ≤ (i 1).val ∧ (i 1).val < 0 + 512; omega
        · exact absurd ha (by show ¬ a + 1 + 1 < 2; omega))]
      refine (spread_row _ _).trans ?_
      exact congrArg₂ (fun a b => ∏ t ∈ Finset.range (a + 1), col (n := 4096) X b t) hrow.symm (Fin.ext rfl)
    · rw [dif_neg (fun hin => hrow (by
        have h0 : k ≤ (i 0).val ∧ (i 0).val < k + 1 := hin (0 : Fin 2)
        omega))]
      exact h.rows i (by omega)

/-- Before the first trip the product is one and nothing is written. -/
theorem carried_start : Carried (arg m) 0 (entryContents preI m (0 : Dev nD)) where
  src := by
    simp only [entryContents, afterL_cons, afterL_nil]
    after_reads_simp
    rfl
  trip := ctr_entry m 0
  prod := by
    simp only [entryContents, afterL_cons, afterL_nil]
    after_reads_simp
    funext j
    exact Ideal.ofBits_one_f32
  rows := fun i hi => absurd hi (Nat.not_lt_zero _)

theorem carried (k : ℕ) (hk : k ≤ 4096) : Carried (arg m) k (STEP^[k] (entryContents preI m (0 : Dev nD))) := by
  induction k with
  | zero => exact carried_start m
  | succ k ih =>
    rw [Function.iterate_succ_apply']
    exact carried_step _ k hk _ (ih (by omega))

/-- The reference leaves the running products. -/
theorem run_value (ρ : Dev nD → PrngReg) : θ_run (defs (F := Ideal)) (onTc (τ := τ) (main (F := Ideal))) ⟨m, fun _ => 0, ρ⟩ fun r =>
    r.2.mem (((0 : Dev nD).tc : Thread nD τ).loc main_v2_3) = running (arg m)
      ∧ r.2.mem (((0 : Dev nD).tc : Thread nD τ).loc main_arg0) = m (((0 : Dev nD).tc : Thread nD τ).loc main_arg0) :=
  (θ_run defs _ _).mono (fun _ h => ⟨(h 0).1.trans (funext fun i => (carried m 4096 le_rfl).rows i (i 0).isLt), (h 0).2⟩) (run m ρ)

/-- The reference has no semaphores, so their counters are at zero. -/
theorem no_sems (f : GSem nD τ sig → ℤ) : f = fun _ => 0 := by
  funext g
  rcases g with ⟨t, s | s⟩
  · exact Fin.elim0 s
  · exact Fin.elim0 s

/-- The reference runs to its end and keeps its argument. -/
theorem frame_reference : Cert.quiescent_ReferenceIdeal := fun m ρ _ =>
  (θ_run defs _ _).mono (fun r h => ⟨fun c => (h c).2, no_sems _⟩) (run m ρ)

end Cert.RunProd.Reference

end
-- ==== Proof.Equation.lean ====
/-
The equation: row `i` on device `c` is the product of the rows of its own block up to `i`, times the totals of the blocks
below; that is the product of all rows of the whole array up to row `1024 · c + i`, which is what the reference holds
there.
-/
module

public import proofs.«01_k».proof.Defs
public import proofs.«01_k».proof.Proof.Final
public import proofs.«01_k».proof.Proof.Scan
public import proofs.«01_k».proof.Proof.Reference

@[expose] public section

noncomputable section

namespace Cert.RunProd

open Cert.KernelIdeal Cert.KernelIdeal.Gen
open Idealize.ShloMosaic Idealize.SL Idealize.SL.Sem

/-- The whole array. -/
abbrev Whole : Type := FVec Ideal (⟨2, ![4096, 512]⟩ : Shape) .f32

/-- The block of device `c`. -/
abbrev blockOf (X : Whole) (c : Dev nD) : FVec Ideal S1024x512 .f32 := Layout.block ⟨2, ![1024, 512]⟩ ⟨2, ![4096, 512]⟩ 0 4 c X

/-- An entry of a block is the array's, a thousand and twenty-four rows further for each block before. -/
theorem block_entry (X : Whole) (c : Dev nD) (i : S1024x512.Idx) (t : ℕ) (h : t = 1024 * c.val + (i 0).val) :
    blockOf X c i = col (n := 4096) X (i 1) t := by
  subst h
  have hi : (i 0).val < 1024 := (i 0).isLt
  have hc : c.val < 4 := c.isLt
  unfold col
  rw [dif_pos (by omega)]
  refine congrArg X (funext fun a => ?_)
  rcases a with ⟨_ | _ | a, ha⟩
  · refine Fin.ext ?_
    show c.val * 1024 + (i 0).val = 1024 * c.val + (i 0).val
    omega
  · rfl
  · exact absurd ha (by show ¬ a + 1 + 1 < 2; omega)

/-- A block's column is a stretch of the array's. -/
theorem block_col (X : Whole) (c : Dev nD) (j : Fin 512) (t : ℕ) (ht : t < 1024) :
    col (n := 1024) (blockOf X c) j t = col (n := 4096) X j (1024 * c.val + t) :=
  (dif_pos ht).trans (block_entry X c (Shape.pair (d := ![1024, 512]) ⟨t, ht⟩ j) _ rfl)

/-! ## Products of stretches -/

/-- The product of the `b`-th stretch of 1024 terms. -/
def stretch (f : ℕ → EReal) (b : ℕ) : EReal := ∏ t ∈ Finset.range 1024, f (1024 * b + t)

/-- The terms before the `c`-th stretch are the stretches before it. -/
theorem prod_stretches (f : ℕ → EReal) (c : ℕ) : ∏ t ∈ Finset.range (1024 * c), f t = ∏ b ∈ Finset.range c, stretch f b := by
  induction c with
  | zero => rfl
  | succ c ih => rw [Nat.mul_succ, Finset.prod_range_add, ih, Finset.prod_range_succ (stretch f) c]; rfl

/-- The total of a device's block is a stretch of the array. -/
theorem total_stretch (X : Whole) (c : Dev nD) (i : S1x512.Idx) :
    totalOf (F := Ideal) (blockOf X c) i = stretch (col (n := 4096) X (i 1)) c.val := by
  rw [total_eq]
  exact Finset.prod_congr rfl fun t ht => block_col X c (i 1) t (Finset.mem_range.mp ht)

variable (m : (ℓ : Loc nD τ sig) → Buf (Elt Ideal) ℓ)

/-- A factor: a stretch if there is such a device, one if there is none. -/
theorem fac_eq (X : Whole) (hX : ∀ c : Dev nD, xin m c = blockOf X c) (c : Dev nD) (k : Fin 3) (i : S1x512.Idx) :
    fac m c k i = if Below c k then stretch (col (n := 4096) X (i 1)) (dn c k).val else 1 := by
  unfold fac
  by_cases h : Below c k
  · rw [if_pos h, if_pos h, hX, total_stretch]
  · rw [if_neg h, if_neg h]; exact one_eq

/-- The three factors together are the stretches of the devices below. -/
theorem factors (g : ℕ → EReal) (c : Dev nD) :
    ((1 * (if Below c 0 then g (dn c 0).val else 1)) * (if Below c 1 then g (dn c 1).val else 1)) * (if Below c 2 then g (dn c 2).val else 1)
      = ∏ b ∈ Finset.range c.val, g b := by
  match c with
  | ⟨0, _⟩ => simp [Below]
  | ⟨1, _⟩ => simp [Below, dn]
  | ⟨2, _⟩ => simp [Below, dn, Finset.prod_range_succ, mul_comm]
  | ⟨3, _⟩ => simp [Below, dn, Finset.prod_range_succ, mul_comm, mul_left_comm, mul_assoc]

/-- The result on a device is the block of the array's running products. -/
theorem outAt_eq (X : Whole) (hX : ∀ c : Dev nD, xin m c = blockOf X c) (c : Dev nD) :
    outAt m c = blockOf (Reference.running X) c := by
  funext i
  unfold outAt
  rw [ValueIdx.mulf_apply, scan_eq, hX]
  rw [broadcastTo_apply _ _ i (Shape.pair (d := ![1, 512]) (0 : Fin 1) (i 1)) (fun a => by
    rcases a with ⟨_ | _ | a, ha⟩
    · rfl
    · rfl
    · exact absurd ha (by show ¬ a + 1 + 1 < 2; omega))]
  simp only [ValueIdx.mulf_apply]
  rw [fac_eq m X hX, fac_eq m X hX, fac_eq m X hX]
  rw [show (broadcast S1x512 (one32 (F := Ideal)) : FVec Ideal S1x512 .f32) (Shape.pair (d := ![1, 512]) (0 : Fin 1) (i 1)) = (1 : EReal) from one_eq,
    factors, ← prod_stretches]
  have hi : (i 0).val < 1024 := (i 0).isLt
  rw [Finset.prod_congr rfl (fun t ht => block_col X c (i 1) t (by have := Finset.mem_range.mp ht; omega)), mul_comm]
  refine (Finset.prod_range_add (col (n := 4096) X (i 1)) (1024 * c.val) ((i 0).val + 1)).symm.trans ?_
  show _ = ∏ t ∈ Finset.range (c.val * 1024 + (i 0).val + 1), col (n := 4096) X (i 1) t
  rw [Nat.mul_comm, Nat.add_assoc]

/-- Over the extended reals the kernel's results are the reference's, block by block. -/
theorem algebraic : Cert.algebraic_KernelIdeal_ReferenceIdeal := fun m ρ m' ρ' _ hm =>
  ⟨Reference.running (Reference.arg m'),
    (θ_run defs _ _).mono (fun _ h c => ⟨(h.1 c).1.trans (outAt_eq m (Reference.arg m') (fun c => (xin_eq m c).trans (hm c)) c), (h.1 c).2⟩)
      (run_main m ρ),
    Reference.run_value m' ρ'⟩

end Cert.RunProd

end
-- ==== Proof.lean ====
/-
The five claims, put together: the frames of the kernel, of its idealization and of the reference, that the idealization
rewrites nothing, and that the idealized kernel's results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Reference
public import proofs.«01_k».proof.Proof.Equation

@[expose] public section

noncomputable section

namespace Cert.Proof

open Idealize.ShloMosaic Idealize.SL.Sem Cert.Kernel

/-- Every claim holds. -/
theorem claim : Cert.Claim :=
  ⟨Cert.Kernel.Gen.facts, Cert.KernelIdeal.Gen.facts, Cert.ReferenceIdeal.Gen.facts,
    Cert.RunProd.frame_kernel, Cert.RunProd.frame_kernelIdeal, Cert.RunProd.Reference.frame_reference, trivial, Cert.RunProd.algebraic⟩

end Cert.Proof

end
